-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S16x32x1024 : Shape := ⟨3, ![16, 32, 1024]⟩
abbrev S16 : Shape := ⟨1, ![16]⟩
abbrev S_ : Shape := ⟨0, ![]⟩
abbrev S1x512x1024 : Shape := ⟨3, ![1, 512, 1024]⟩
abbrev S512x1024 : Shape := ⟨2, ![512, 1024]⟩
abbrev S1x32x1024 : Shape := ⟨3, ![1, 32, 1024]⟩
abbrev S32x1024 : Shape := ⟨2, ![32, 1024]⟩
abbrev S1 : Shape := ⟨1, ![1]⟩
abbrev S32 : Shape := ⟨1, ![32]⟩
abbrev S32x1 : Shape := ⟨2, ![32, 1]⟩
abbrev S1x1024 : Shape := ⟨2, ![1, 1024]⟩

abbrev nBuf : Space → Nat
  | .hbm => 4
  | .vmem => 9
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1024, .bf16⟩
  | .hbm, ⟨3, _⟩ => ⟨S1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1024, .bf16⟩
  | .local _ .vmem, ⟨3, _⟩ => ⟨S1024x1024, .f32⟩
  | .local _ .vmem, ⟨4, _⟩ => ⟨S16x32x1024, .bf16⟩
  | .local _ .vmem, ⟨5, _⟩ => ⟨S16x32x1024, .bf16⟩
  | .local _ .vmem, ⟨6, _⟩ => ⟨S16x32x1024, .bf16⟩
  | .local _ .vmem, ⟨7, _⟩ => ⟨S16x32x1024, .bf16⟩
  | .local _ .vmem, ⟨8, _⟩ => ⟨S16x32x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let v_true : BitVec 1 := 1#1
  let v15 : BitVec 1 := Scalar.xori v9 v_true
  let v16 : BitVec 32 := Scalar.extui v15
  let c0_i32_4 : BitVec 32 := 0#32
  let v17 : BitVec 1 := Scalar.cmpi .ne v16 c0_i32_4
  v17

def k0_dev1 (d0 : Dev nD) : Nat :=
  let c0_i32_501 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_500 : BitVec 32 := 16#32
  let v567 : BitVec 32 := Scalar.muli v2 c16_i32_500
  let v568 : BitVec 32 := Scalar.addi c0_i32_501 v567
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_498 : BitVec 32 := 1#32
  let v566 : BitVec 32 := Scalar.subi v5 c1_i32_498
  let c4_i32_502 : BitVec 32 := 4#32
  let v569 : BitVec 32 := Scalar.muli v566 c4_i32_502
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_503 : BitVec 32 := 1#32
  let v571 : BitVec 32 := Scalar.muli v8 c1_i32_503
  let v572 : BitVec 32 := Scalar.addi v570 v571
  v572.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_5 : BitVec 1 := 1#1
  let v18 : BitVec 1 := Scalar.xori v10 true_5
  let v19 : BitVec 32 := Scalar.extui v18
  let c0_i32_6 : BitVec 32 := 0#32
  let v20 : BitVec 1 := Scalar.cmpi .ne v19 c0_i32_6
  v20

def k0_dev2 (d0 : Dev nD) : Nat :=
  let c0_i32_501 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_500 : BitVec 32 := 16#32
  let v567 : BitVec 32 := Scalar.muli v2 c16_i32_500
  let v568 : BitVec 32 := Scalar.addi c0_i32_501 v567
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_498 : BitVec 32 := 1#32
  let v566 : BitVec 32 := Scalar.addi v5 c1_i32_498
  let c4_i32_502 : BitVec 32 := 4#32
  let v569 : BitVec 32 := Scalar.muli v566 c4_i32_502
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_503 : BitVec 32 := 1#32
  let v571 : BitVec 32 := Scalar.muli v8 c1_i32_503
  let v572 : BitVec 32 := Scalar.addi v570 v571
  v572.toNat
def k0_dev3 (d0 : Dev nD) : Nat :=
  let c0_i32_10 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v21 : BitVec 32 := Scalar.subi c1_i32_7 v2
  let c16_i32_9 : BitVec 32 := 16#32
  let v22 : BitVec 32 := Scalar.muli v21 c16_i32_9
  let v23 : BitVec 32 := Scalar.addi c0_i32_10 v22
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v24 : BitVec 32 := Scalar.muli v5 c4_i32_11
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v26 : BitVec 32 := Scalar.muli v8 c1_i32_12
  let v27 : BitVec 32 := Scalar.addi v25 v26
  v27.toNat
def k0_off1 (d0 : Dev nD) : Fin 3 → Nat :=
  let c0 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v11 : BitVec 32 := Scalar.muli v2 c512_i32
  let v28 : Index := Scalar.indexCast v11
  let c0_13 : Index := 0#32
  ![0, v28.toNat, 0]
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let v44 : BitVec 32 := Scalar.extui v9
  let c0_i32_21 : BitVec 32 := 0#32
  let v45 : BitVec 1 := Scalar.cmpi .ne v44 c0_i32_21
  v45

def k0_dev4 (d0 : Dev nD) : Nat :=
  let c0_i32_510 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_509 : BitVec 32 := 16#32
  let v572 : BitVec 32 := Scalar.muli v2 c16_i32_509
  let v573 : BitVec 32 := Scalar.addi c0_i32_510 v572
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_504 : BitVec 32 := 1#32
  let v571 : BitVec 32 := Scalar.addi v5 c1_i32_504
  let c4_i32_511 : BitVec 32 := 4#32
  let v574 : BitVec 32 := Scalar.muli v571 c4_i32_511
  let v575 : BitVec 32 := Scalar.addi v573 v574
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_512 : BitVec 32 := 1#32
  let v576 : BitVec 32 := Scalar.muli v8 c1_i32_512
  let v577 : BitVec 32 := Scalar.addi v575 v576
  v577.toNat
def k0_dev5 (d0 : Dev nD) : Nat :=
  let c0_i32_529 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_528 : BitVec 32 := 16#32
  let v592 : BitVec 32 := Scalar.muli v2 c16_i32_528
  let v593 : BitVec 32 := Scalar.addi c0_i32_529 v592
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_523 : BitVec 32 := 1#32
  let v591 : BitVec 32 := Scalar.addi v5 c1_i32_523
  let c4_i32_530 : BitVec 32 := 4#32
  let v594 : BitVec 32 := Scalar.muli v591 c4_i32_530
  let v595 : BitVec 32 := Scalar.addi v593 v594
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_531 : BitVec 32 := 1#32
  let v596 : BitVec 32 := Scalar.muli v8 c1_i32_531
  let v597 : BitVec 32 := Scalar.addi v595 v596
  v597.toNat
def k0_dev6 (d0 : Dev nD) : Nat :=
  let c0_i32_548 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_547 : BitVec 32 := 16#32
  let v612 : BitVec 32 := Scalar.muli v2 c16_i32_547
  let v613 : BitVec 32 := Scalar.addi c0_i32_548 v612
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_542 : BitVec 32 := 1#32
  let v611 : BitVec 32 := Scalar.addi v5 c1_i32_542
  let c4_i32_549 : BitVec 32 := 4#32
  let v614 : BitVec 32 := Scalar.muli v611 c4_i32_549
  let v615 : BitVec 32 := Scalar.addi v613 v614
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_550 : BitVec 32 := 1#32
  let v616 : BitVec 32 := Scalar.muli v8 c1_i32_550
  let v617 : BitVec 32 := Scalar.addi v615 v616
  v617.toNat
def k0_dev7 (d0 : Dev nD) : Nat :=
  let c0_i32_567 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_566 : BitVec 32 := 16#32
  let v632 : BitVec 32 := Scalar.muli v2 c16_i32_566
  let v633 : BitVec 32 := Scalar.addi c0_i32_567 v632
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_561 : BitVec 32 := 1#32
  let v631 : BitVec 32 := Scalar.addi v5 c1_i32_561
  let c4_i32_568 : BitVec 32 := 4#32
  let v634 : BitVec 32 := Scalar.muli v631 c4_i32_568
  let v635 : BitVec 32 := Scalar.addi v633 v634
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_569 : BitVec 32 := 1#32
  let v636 : BitVec 32 := Scalar.muli v8 c1_i32_569
  let v637 : BitVec 32 := Scalar.addi v635 v636
  v637.toNat
def k0_dev8 (d0 : Dev nD) : Nat :=
  let c0_i32_586 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_585 : BitVec 32 := 16#32
  let v652 : BitVec 32 := Scalar.muli v2 c16_i32_585
  let v653 : BitVec 32 := Scalar.addi c0_i32_586 v652
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_580 : BitVec 32 := 1#32
  let v651 : BitVec 32 := Scalar.addi v5 c1_i32_580
  let c4_i32_587 : BitVec 32 := 4#32
  let v654 : BitVec 32 := Scalar.muli v651 c4_i32_587
  let v655 : BitVec 32 := Scalar.addi v653 v654
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_588 : BitVec 32 := 1#32
  let v656 : BitVec 32 := Scalar.muli v8 c1_i32_588
  let v657 : BitVec 32 := Scalar.addi v655 v656
  v657.toNat
def k0_dev9 (d0 : Dev nD) : Nat :=
  let c0_i32_605 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_604 : BitVec 32 := 16#32
  let v672 : BitVec 32 := Scalar.muli v2 c16_i32_604
  let v673 : BitVec 32 := Scalar.addi c0_i32_605 v672
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_599 : BitVec 32 := 1#32
  let v671 : BitVec 32 := Scalar.addi v5 c1_i32_599
  let c4_i32_606 : BitVec 32 := 4#32
  let v674 : BitVec 32 := Scalar.muli v671 c4_i32_606
  let v675 : BitVec 32 := Scalar.addi v673 v674
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_607 : BitVec 32 := 1#32
  let v676 : BitVec 32 := Scalar.muli v8 c1_i32_607
  let v677 : BitVec 32 := Scalar.addi v675 v676
  v677.toNat
def k0_dev10 (d0 : Dev nD) : Nat :=
  let c0_i32_624 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_623 : BitVec 32 := 16#32
  let v692 : BitVec 32 := Scalar.muli v2 c16_i32_623
  let v693 : BitVec 32 := Scalar.addi c0_i32_624 v692
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_618 : BitVec 32 := 1#32
  let v691 : BitVec 32 := Scalar.addi v5 c1_i32_618
  let c4_i32_625 : BitVec 32 := 4#32
  let v694 : BitVec 32 := Scalar.muli v691 c4_i32_625
  let v695 : BitVec 32 := Scalar.addi v693 v694
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_626 : BitVec 32 := 1#32
  let v696 : BitVec 32 := Scalar.muli v8 c1_i32_626
  let v697 : BitVec 32 := Scalar.addi v695 v696
  v697.toNat
def k0_dev11 (d0 : Dev nD) : Nat :=
  let c0_i32_643 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_642 : BitVec 32 := 16#32
  let v712 : BitVec 32 := Scalar.muli v2 c16_i32_642
  let v713 : BitVec 32 := Scalar.addi c0_i32_643 v712
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_637 : BitVec 32 := 1#32
  let v711 : BitVec 32 := Scalar.addi v5 c1_i32_637
  let c4_i32_644 : BitVec 32 := 4#32
  let v714 : BitVec 32 := Scalar.muli v711 c4_i32_644
  let v715 : BitVec 32 := Scalar.addi v713 v714
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_645 : BitVec 32 := 1#32
  let v716 : BitVec 32 := Scalar.muli v8 c1_i32_645
  let v717 : BitVec 32 := Scalar.addi v715 v716
  v717.toNat
def k0_dev12 (d0 : Dev nD) : Nat :=
  let c0_i32_662 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_661 : BitVec 32 := 16#32
  let v732 : BitVec 32 := Scalar.muli v2 c16_i32_661
  let v733 : BitVec 32 := Scalar.addi c0_i32_662 v732
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_656 : BitVec 32 := 1#32
  let v731 : BitVec 32 := Scalar.addi v5 c1_i32_656
  let c4_i32_663 : BitVec 32 := 4#32
  let v734 : BitVec 32 := Scalar.muli v731 c4_i32_663
  let v735 : BitVec 32 := Scalar.addi v733 v734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_664 : BitVec 32 := 1#32
  let v736 : BitVec 32 := Scalar.muli v8 c1_i32_664
  let v737 : BitVec 32 := Scalar.addi v735 v736
  v737.toNat
def k0_dev13 (d0 : Dev nD) : Nat :=
  let c0_i32_681 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_680 : BitVec 32 := 16#32
  let v752 : BitVec 32 := Scalar.muli v2 c16_i32_680
  let v753 : BitVec 32 := Scalar.addi c0_i32_681 v752
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_675 : BitVec 32 := 1#32
  let v751 : BitVec 32 := Scalar.addi v5 c1_i32_675
  let c4_i32_682 : BitVec 32 := 4#32
  let v754 : BitVec 32 := Scalar.muli v751 c4_i32_682
  let v755 : BitVec 32 := Scalar.addi v753 v754
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_683 : BitVec 32 := 1#32
  let v756 : BitVec 32 := Scalar.muli v8 c1_i32_683
  let v757 : BitVec 32 := Scalar.addi v755 v756
  v757.toNat
def k0_dev14 (d0 : Dev nD) : Nat :=
  let c0_i32_700 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_699 : BitVec 32 := 16#32
  let v772 : BitVec 32 := Scalar.muli v2 c16_i32_699
  let v773 : BitVec 32 := Scalar.addi c0_i32_700 v772
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_694 : BitVec 32 := 1#32
  let v771 : BitVec 32 := Scalar.addi v5 c1_i32_694
  let c4_i32_701 : BitVec 32 := 4#32
  let v774 : BitVec 32 := Scalar.muli v771 c4_i32_701
  let v775 : BitVec 32 := Scalar.addi v773 v774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_702 : BitVec 32 := 1#32
  let v776 : BitVec 32 := Scalar.muli v8 c1_i32_702
  let v777 : BitVec 32 := Scalar.addi v775 v776
  v777.toNat
def k0_dev15 (d0 : Dev nD) : Nat :=
  let c0_i32_719 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_718 : BitVec 32 := 16#32
  let v792 : BitVec 32 := Scalar.muli v2 c16_i32_718
  let v793 : BitVec 32 := Scalar.addi c0_i32_719 v792
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_713 : BitVec 32 := 1#32
  let v791 : BitVec 32 := Scalar.addi v5 c1_i32_713
  let c4_i32_720 : BitVec 32 := 4#32
  let v794 : BitVec 32 := Scalar.muli v791 c4_i32_720
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_721 : BitVec 32 := 1#32
  let v796 : BitVec 32 := Scalar.muli v8 c1_i32_721
  let v797 : BitVec 32 := Scalar.addi v795 v796
  v797.toNat
def k0_dev16 (d0 : Dev nD) : Nat :=
  let c0_i32_738 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_737 : BitVec 32 := 16#32
  let v812 : BitVec 32 := Scalar.muli v2 c16_i32_737
  let v813 : BitVec 32 := Scalar.addi c0_i32_738 v812
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_732 : BitVec 32 := 1#32
  let v811 : BitVec 32 := Scalar.addi v5 c1_i32_732
  let c4_i32_739 : BitVec 32 := 4#32
  let v814 : BitVec 32 := Scalar.muli v811 c4_i32_739
  let v815 : BitVec 32 := Scalar.addi v813 v814
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_740 : BitVec 32 := 1#32
  let v816 : BitVec 32 := Scalar.muli v8 c1_i32_740
  let v817 : BitVec 32 := Scalar.addi v815 v816
  v817.toNat
def k0_dev17 (d0 : Dev nD) : Nat :=
  let c0_i32_757 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_756 : BitVec 32 := 16#32
  let v832 : BitVec 32 := Scalar.muli v2 c16_i32_756
  let v833 : BitVec 32 := Scalar.addi c0_i32_757 v832
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_751 : BitVec 32 := 1#32
  let v831 : BitVec 32 := Scalar.addi v5 c1_i32_751
  let c4_i32_758 : BitVec 32 := 4#32
  let v834 : BitVec 32 := Scalar.muli v831 c4_i32_758
  let v835 : BitVec 32 := Scalar.addi v833 v834
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_759 : BitVec 32 := 1#32
  let v836 : BitVec 32 := Scalar.muli v8 c1_i32_759
  let v837 : BitVec 32 := Scalar.addi v835 v836
  v837.toNat
def k0_dev18 (d0 : Dev nD) : Nat :=
  let c0_i32_776 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_775 : BitVec 32 := 16#32
  let v852 : BitVec 32 := Scalar.muli v2 c16_i32_775
  let v853 : BitVec 32 := Scalar.addi c0_i32_776 v852
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_770 : BitVec 32 := 1#32
  let v851 : BitVec 32 := Scalar.addi v5 c1_i32_770
  let c4_i32_777 : BitVec 32 := 4#32
  let v854 : BitVec 32 := Scalar.muli v851 c4_i32_777
  let v855 : BitVec 32 := Scalar.addi v853 v854
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_778 : BitVec 32 := 1#32
  let v856 : BitVec 32 := Scalar.muli v8 c1_i32_778
  let v857 : BitVec 32 := Scalar.addi v855 v856
  v857.toNat
def k0_dev19 (d0 : Dev nD) : Nat :=
  let c0_i32_795 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_794 : BitVec 32 := 16#32
  let v872 : BitVec 32 := Scalar.muli v2 c16_i32_794
  let v873 : BitVec 32 := Scalar.addi c0_i32_795 v872
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_789 : BitVec 32 := 1#32
  let v871 : BitVec 32 := Scalar.addi v5 c1_i32_789
  let c4_i32_796 : BitVec 32 := 4#32
  let v874 : BitVec 32 := Scalar.muli v871 c4_i32_796
  let v875 : BitVec 32 := Scalar.addi v873 v874
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_797 : BitVec 32 := 1#32
  let v876 : BitVec 32 := Scalar.muli v8 c1_i32_797
  let v877 : BitVec 32 := Scalar.addi v875 v876
  v877.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_824 : BitVec 1 := 1#1
  let v907 : BitVec 1 := Scalar.xori v9 true_824
  let v908 : BitVec 32 := Scalar.extui v907
  let c0_i32_825 : BitVec 32 := 0#32
  let v909 : BitVec 1 := Scalar.cmpi .ne v908 c0_i32_825
  v909

def k0_dev20 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_off2 (d0 : Dev nD) (c0_i32_835 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v11 : BitVec 32 := Scalar.muli v2 c512_i32
  let v921 : BitVec 32 := Scalar.addi v11 c0_i32_835
  let v922 : Index := Scalar.indexCast v921
  let c0_836 : Index := 0#32
  ![v922.toNat, 0]
def k0_dev21 (d0 : Dev nD) : Nat :=
  let c0_i32_848 : BitVec 32 := 0#32
  let c1_i32_842 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v945 : BitVec 32 := Scalar.subi c1_i32_842 v2
  let c16_i32_847 : BitVec 32 := 16#32
  let v946 : BitVec 32 := Scalar.muli v945 c16_i32_847
  let v947 : BitVec 32 := Scalar.addi c0_i32_848 v946
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_849 : BitVec 32 := 4#32
  let v948 : BitVec 32 := Scalar.muli v5 c4_i32_849
  let v949 : BitVec 32 := Scalar.addi v947 v948
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_850 : BitVec 32 := 1#32
  let v950 : BitVec 32 := Scalar.muli v8 c1_i32_850
  let v951 : BitVec 32 := Scalar.addi v949 v950
  v951.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_879 : BitVec 1 := 1#1
  let v984 : BitVec 1 := Scalar.xori v9 true_879
  let v985 : BitVec 32 := Scalar.extui v984
  let c0_i32_880 : BitVec 32 := 0#32
  let v986 : BitVec 1 := Scalar.cmpi .ne v985 c0_i32_880
  v986

def k0_dev22 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev23 (d0 : Dev nD) : Nat :=
  let c0_i32_904 : BitVec 32 := 0#32
  let c1_i32_898 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1022 : BitVec 32 := Scalar.subi c1_i32_898 v2
  let c16_i32_903 : BitVec 32 := 16#32
  let v1023 : BitVec 32 := Scalar.muli v1022 c16_i32_903
  let v1024 : BitVec 32 := Scalar.addi c0_i32_904 v1023
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_905 : BitVec 32 := 4#32
  let v1025 : BitVec 32 := Scalar.muli v5 c4_i32_905
  let v1026 : BitVec 32 := Scalar.addi v1024 v1025
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_906 : BitVec 32 := 1#32
  let v1027 : BitVec 32 := Scalar.muli v8 c1_i32_906
  let v1028 : BitVec 32 := Scalar.addi v1026 v1027
  v1028.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_935 : BitVec 1 := 1#1
  let v1061 : BitVec 1 := Scalar.xori v9 true_935
  let v1062 : BitVec 32 := Scalar.extui v1061
  let c0_i32_936 : BitVec 32 := 0#32
  let v1063 : BitVec 1 := Scalar.cmpi .ne v1062 c0_i32_936
  v1063

def k0_dev24 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev25 (d0 : Dev nD) : Nat :=
  let c0_i32_960 : BitVec 32 := 0#32
  let c1_i32_954 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1099 : BitVec 32 := Scalar.subi c1_i32_954 v2
  let c16_i32_959 : BitVec 32 := 16#32
  let v1100 : BitVec 32 := Scalar.muli v1099 c16_i32_959
  let v1101 : BitVec 32 := Scalar.addi c0_i32_960 v1100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_961 : BitVec 32 := 4#32
  let v1102 : BitVec 32 := Scalar.muli v5 c4_i32_961
  let v1103 : BitVec 32 := Scalar.addi v1101 v1102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_962 : BitVec 32 := 1#32
  let v1104 : BitVec 32 := Scalar.muli v8 c1_i32_962
  let v1105 : BitVec 32 := Scalar.addi v1103 v1104
  v1105.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_991 : BitVec 1 := 1#1
  let v1138 : BitVec 1 := Scalar.xori v9 true_991
  let v1139 : BitVec 32 := Scalar.extui v1138
  let c0_i32_992 : BitVec 32 := 0#32
  let v1140 : BitVec 1 := Scalar.cmpi .ne v1139 c0_i32_992
  v1140

def k0_dev26 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev27 (d0 : Dev nD) : Nat :=
  let c0_i32_1016 : BitVec 32 := 0#32
  let c1_i32_1010 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1176 : BitVec 32 := Scalar.subi c1_i32_1010 v2
  let c16_i32_1015 : BitVec 32 := 16#32
  let v1177 : BitVec 32 := Scalar.muli v1176 c16_i32_1015
  let v1178 : BitVec 32 := Scalar.addi c0_i32_1016 v1177
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1017 : BitVec 32 := 4#32
  let v1179 : BitVec 32 := Scalar.muli v5 c4_i32_1017
  let v1180 : BitVec 32 := Scalar.addi v1178 v1179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1018 : BitVec 32 := 1#32
  let v1181 : BitVec 32 := Scalar.muli v8 c1_i32_1018
  let v1182 : BitVec 32 := Scalar.addi v1180 v1181
  v1182.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1047 : BitVec 1 := 1#1
  let v1215 : BitVec 1 := Scalar.xori v9 true_1047
  let v1216 : BitVec 32 := Scalar.extui v1215
  let c0_i32_1048 : BitVec 32 := 0#32
  let v1217 : BitVec 1 := Scalar.cmpi .ne v1216 c0_i32_1048
  v1217

def k0_dev28 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev29 (d0 : Dev nD) : Nat :=
  let c0_i32_1072 : BitVec 32 := 0#32
  let c1_i32_1066 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1253 : BitVec 32 := Scalar.subi c1_i32_1066 v2
  let c16_i32_1071 : BitVec 32 := 16#32
  let v1254 : BitVec 32 := Scalar.muli v1253 c16_i32_1071
  let v1255 : BitVec 32 := Scalar.addi c0_i32_1072 v1254
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1073 : BitVec 32 := 4#32
  let v1256 : BitVec 32 := Scalar.muli v5 c4_i32_1073
  let v1257 : BitVec 32 := Scalar.addi v1255 v1256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1074 : BitVec 32 := 1#32
  let v1258 : BitVec 32 := Scalar.muli v8 c1_i32_1074
  let v1259 : BitVec 32 := Scalar.addi v1257 v1258
  v1259.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1103 : BitVec 1 := 1#1
  let v1292 : BitVec 1 := Scalar.xori v9 true_1103
  let v1293 : BitVec 32 := Scalar.extui v1292
  let c0_i32_1104 : BitVec 32 := 0#32
  let v1294 : BitVec 1 := Scalar.cmpi .ne v1293 c0_i32_1104
  v1294

def k0_dev30 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev31 (d0 : Dev nD) : Nat :=
  let c0_i32_1128 : BitVec 32 := 0#32
  let c1_i32_1122 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1330 : BitVec 32 := Scalar.subi c1_i32_1122 v2
  let c16_i32_1127 : BitVec 32 := 16#32
  let v1331 : BitVec 32 := Scalar.muli v1330 c16_i32_1127
  let v1332 : BitVec 32 := Scalar.addi c0_i32_1128 v1331
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1129 : BitVec 32 := 4#32
  let v1333 : BitVec 32 := Scalar.muli v5 c4_i32_1129
  let v1334 : BitVec 32 := Scalar.addi v1332 v1333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1130 : BitVec 32 := 1#32
  let v1335 : BitVec 32 := Scalar.muli v8 c1_i32_1130
  let v1336 : BitVec 32 := Scalar.addi v1334 v1335
  v1336.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1159 : BitVec 1 := 1#1
  let v1369 : BitVec 1 := Scalar.xori v9 true_1159
  let v1370 : BitVec 32 := Scalar.extui v1369
  let c0_i32_1160 : BitVec 32 := 0#32
  let v1371 : BitVec 1 := Scalar.cmpi .ne v1370 c0_i32_1160
  v1371

def k0_dev32 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev33 (d0 : Dev nD) : Nat :=
  let c0_i32_1184 : BitVec 32 := 0#32
  let c1_i32_1178 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1407 : BitVec 32 := Scalar.subi c1_i32_1178 v2
  let c16_i32_1183 : BitVec 32 := 16#32
  let v1408 : BitVec 32 := Scalar.muli v1407 c16_i32_1183
  let v1409 : BitVec 32 := Scalar.addi c0_i32_1184 v1408
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1185 : BitVec 32 := 4#32
  let v1410 : BitVec 32 := Scalar.muli v5 c4_i32_1185
  let v1411 : BitVec 32 := Scalar.addi v1409 v1410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1186 : BitVec 32 := 1#32
  let v1412 : BitVec 32 := Scalar.muli v8 c1_i32_1186
  let v1413 : BitVec 32 := Scalar.addi v1411 v1412
  v1413.toNat
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1215 : BitVec 1 := 1#1
  let v1446 : BitVec 1 := Scalar.xori v9 true_1215
  let v1447 : BitVec 32 := Scalar.extui v1446
  let c0_i32_1216 : BitVec 32 := 0#32
  let v1448 : BitVec 1 := Scalar.cmpi .ne v1447 c0_i32_1216
  v1448

def k0_dev34 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev35 (d0 : Dev nD) : Nat :=
  let c0_i32_1240 : BitVec 32 := 0#32
  let c1_i32_1234 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1484 : BitVec 32 := Scalar.subi c1_i32_1234 v2
  let c16_i32_1239 : BitVec 32 := 16#32
  let v1485 : BitVec 32 := Scalar.muli v1484 c16_i32_1239
  let v1486 : BitVec 32 := Scalar.addi c0_i32_1240 v1485
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1241 : BitVec 32 := 4#32
  let v1487 : BitVec 32 := Scalar.muli v5 c4_i32_1241
  let v1488 : BitVec 32 := Scalar.addi v1486 v1487
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1242 : BitVec 32 := 1#32
  let v1489 : BitVec 32 := Scalar.muli v8 c1_i32_1242
  let v1490 : BitVec 32 := Scalar.addi v1488 v1489
  v1490.toNat
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1271 : BitVec 1 := 1#1
  let v1523 : BitVec 1 := Scalar.xori v9 true_1271
  let v1524 : BitVec 32 := Scalar.extui v1523
  let c0_i32_1272 : BitVec 32 := 0#32
  let v1525 : BitVec 1 := Scalar.cmpi .ne v1524 c0_i32_1272
  v1525

def k0_dev36 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev37 (d0 : Dev nD) : Nat :=
  let c0_i32_1296 : BitVec 32 := 0#32
  let c1_i32_1290 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1561 : BitVec 32 := Scalar.subi c1_i32_1290 v2
  let c16_i32_1295 : BitVec 32 := 16#32
  let v1562 : BitVec 32 := Scalar.muli v1561 c16_i32_1295
  let v1563 : BitVec 32 := Scalar.addi c0_i32_1296 v1562
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1297 : BitVec 32 := 4#32
  let v1564 : BitVec 32 := Scalar.muli v5 c4_i32_1297
  let v1565 : BitVec 32 := Scalar.addi v1563 v1564
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1298 : BitVec 32 := 1#32
  let v1566 : BitVec 32 := Scalar.muli v8 c1_i32_1298
  let v1567 : BitVec 32 := Scalar.addi v1565 v1566
  v1567.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1327 : BitVec 1 := 1#1
  let v1600 : BitVec 1 := Scalar.xori v9 true_1327
  let v1601 : BitVec 32 := Scalar.extui v1600
  let c0_i32_1328 : BitVec 32 := 0#32
  let v1602 : BitVec 1 := Scalar.cmpi .ne v1601 c0_i32_1328
  v1602

def k0_dev38 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev39 (d0 : Dev nD) : Nat :=
  let c0_i32_1352 : BitVec 32 := 0#32
  let c1_i32_1346 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1638 : BitVec 32 := Scalar.subi c1_i32_1346 v2
  let c16_i32_1351 : BitVec 32 := 16#32
  let v1639 : BitVec 32 := Scalar.muli v1638 c16_i32_1351
  let v1640 : BitVec 32 := Scalar.addi c0_i32_1352 v1639
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1353 : BitVec 32 := 4#32
  let v1641 : BitVec 32 := Scalar.muli v5 c4_i32_1353
  let v1642 : BitVec 32 := Scalar.addi v1640 v1641
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1354 : BitVec 32 := 1#32
  let v1643 : BitVec 32 := Scalar.muli v8 c1_i32_1354
  let v1644 : BitVec 32 := Scalar.addi v1642 v1643
  v1644.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1383 : BitVec 1 := 1#1
  let v1677 : BitVec 1 := Scalar.xori v9 true_1383
  let v1678 : BitVec 32 := Scalar.extui v1677
  let c0_i32_1384 : BitVec 32 := 0#32
  let v1679 : BitVec 1 := Scalar.cmpi .ne v1678 c0_i32_1384
  v1679

def k0_dev40 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev41 (d0 : Dev nD) : Nat :=
  let c0_i32_1408 : BitVec 32 := 0#32
  let c1_i32_1402 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1715 : BitVec 32 := Scalar.subi c1_i32_1402 v2
  let c16_i32_1407 : BitVec 32 := 16#32
  let v1716 : BitVec 32 := Scalar.muli v1715 c16_i32_1407
  let v1717 : BitVec 32 := Scalar.addi c0_i32_1408 v1716
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1409 : BitVec 32 := 4#32
  let v1718 : BitVec 32 := Scalar.muli v5 c4_i32_1409
  let v1719 : BitVec 32 := Scalar.addi v1717 v1718
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1410 : BitVec 32 := 1#32
  let v1720 : BitVec 32 := Scalar.muli v8 c1_i32_1410
  let v1721 : BitVec 32 := Scalar.addi v1719 v1720
  v1721.toNat
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1439 : BitVec 1 := 1#1
  let v1754 : BitVec 1 := Scalar.xori v9 true_1439
  let v1755 : BitVec 32 := Scalar.extui v1754
  let c0_i32_1440 : BitVec 32 := 0#32
  let v1756 : BitVec 1 := Scalar.cmpi .ne v1755 c0_i32_1440
  v1756

def k0_dev42 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev43 (d0 : Dev nD) : Nat :=
  let c0_i32_1464 : BitVec 32 := 0#32
  let c1_i32_1458 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1792 : BitVec 32 := Scalar.subi c1_i32_1458 v2
  let c16_i32_1463 : BitVec 32 := 16#32
  let v1793 : BitVec 32 := Scalar.muli v1792 c16_i32_1463
  let v1794 : BitVec 32 := Scalar.addi c0_i32_1464 v1793
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1465 : BitVec 32 := 4#32
  let v1795 : BitVec 32 := Scalar.muli v5 c4_i32_1465
  let v1796 : BitVec 32 := Scalar.addi v1794 v1795
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1466 : BitVec 32 := 1#32
  let v1797 : BitVec 32 := Scalar.muli v8 c1_i32_1466
  let v1798 : BitVec 32 := Scalar.addi v1796 v1797
  v1798.toNat
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1495 : BitVec 1 := 1#1
  let v1831 : BitVec 1 := Scalar.xori v9 true_1495
  let v1832 : BitVec 32 := Scalar.extui v1831
  let c0_i32_1496 : BitVec 32 := 0#32
  let v1833 : BitVec 1 := Scalar.cmpi .ne v1832 c0_i32_1496
  v1833

def k0_dev44 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev45 (d0 : Dev nD) : Nat :=
  let c0_i32_1520 : BitVec 32 := 0#32
  let c1_i32_1514 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1869 : BitVec 32 := Scalar.subi c1_i32_1514 v2
  let c16_i32_1519 : BitVec 32 := 16#32
  let v1870 : BitVec 32 := Scalar.muli v1869 c16_i32_1519
  let v1871 : BitVec 32 := Scalar.addi c0_i32_1520 v1870
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1521 : BitVec 32 := 4#32
  let v1872 : BitVec 32 := Scalar.muli v5 c4_i32_1521
  let v1873 : BitVec 32 := Scalar.addi v1871 v1872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1522 : BitVec 32 := 1#32
  let v1874 : BitVec 32 := Scalar.muli v8 c1_i32_1522
  let v1875 : BitVec 32 := Scalar.addi v1873 v1874
  v1875.toNat
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1551 : BitVec 1 := 1#1
  let v1908 : BitVec 1 := Scalar.xori v9 true_1551
  let v1909 : BitVec 32 := Scalar.extui v1908
  let c0_i32_1552 : BitVec 32 := 0#32
  let v1910 : BitVec 1 := Scalar.cmpi .ne v1909 c0_i32_1552
  v1910

def k0_dev46 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev47 (d0 : Dev nD) : Nat :=
  let c0_i32_1576 : BitVec 32 := 0#32
  let c1_i32_1570 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1946 : BitVec 32 := Scalar.subi c1_i32_1570 v2
  let c16_i32_1575 : BitVec 32 := 16#32
  let v1947 : BitVec 32 := Scalar.muli v1946 c16_i32_1575
  let v1948 : BitVec 32 := Scalar.addi c0_i32_1576 v1947
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1577 : BitVec 32 := 4#32
  let v1949 : BitVec 32 := Scalar.muli v5 c4_i32_1577
  let v1950 : BitVec 32 := Scalar.addi v1948 v1949
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1578 : BitVec 32 := 1#32
  let v1951 : BitVec 32 := Scalar.muli v8 c1_i32_1578
  let v1952 : BitVec 32 := Scalar.addi v1950 v1951
  v1952.toNat
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1607 : BitVec 1 := 1#1
  let v1985 : BitVec 1 := Scalar.xori v9 true_1607
  let v1986 : BitVec 32 := Scalar.extui v1985
  let c0_i32_1608 : BitVec 32 := 0#32
  let v1987 : BitVec 1 := Scalar.cmpi .ne v1986 c0_i32_1608
  v1987

def k0_dev48 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev49 (d0 : Dev nD) : Nat :=
  let c0_i32_1632 : BitVec 32 := 0#32
  let c1_i32_1626 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2023 : BitVec 32 := Scalar.subi c1_i32_1626 v2
  let c16_i32_1631 : BitVec 32 := 16#32
  let v2024 : BitVec 32 := Scalar.muli v2023 c16_i32_1631
  let v2025 : BitVec 32 := Scalar.addi c0_i32_1632 v2024
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1633 : BitVec 32 := 4#32
  let v2026 : BitVec 32 := Scalar.muli v5 c4_i32_1633
  let v2027 : BitVec 32 := Scalar.addi v2025 v2026
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1634 : BitVec 32 := 1#32
  let v2028 : BitVec 32 := Scalar.muli v8 c1_i32_1634
  let v2029 : BitVec 32 := Scalar.addi v2027 v2028
  v2029.toNat
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1663 : BitVec 1 := 1#1
  let v2062 : BitVec 1 := Scalar.xori v9 true_1663
  let v2063 : BitVec 32 := Scalar.extui v2062
  let c0_i32_1664 : BitVec 32 := 0#32
  let v2064 : BitVec 1 := Scalar.cmpi .ne v2063 c0_i32_1664
  v2064

def k0_dev50 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v2118 : BitVec 32 := Scalar.addi v5 c_m1_i32
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev51 (d0 : Dev nD) : Nat :=
  let c0_i32_1688 : BitVec 32 := 0#32
  let c1_i32_1682 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2100 : BitVec 32 := Scalar.subi c1_i32_1682 v2
  let c16_i32_1687 : BitVec 32 := 16#32
  let v2101 : BitVec 32 := Scalar.muli v2100 c16_i32_1687
  let v2102 : BitVec 32 := Scalar.addi c0_i32_1688 v2101
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1689 : BitVec 32 := 4#32
  let v2103 : BitVec 32 := Scalar.muli v5 c4_i32_1689
  let v2104 : BitVec 32 := Scalar.addi v2102 v2103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1690 : BitVec 32 := 1#32
  let v2105 : BitVec 32 := Scalar.muli v8 c1_i32_1690
  let v2106 : BitVec 32 := Scalar.addi v2104 v2105
  v2106.toNat
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let v46 : BitVec 32 := Scalar.extui v10
  let c0_i32_22 : BitVec 32 := 0#32
  let v47 : BitVec 1 := Scalar.cmpi .ne v46 c0_i32_22
  v47

def k0_dev52 (d0 : Dev nD) : Nat :=
  let c0_i32_509 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_508 : BitVec 32 := 16#32
  let v572 : BitVec 32 := Scalar.muli v2 c16_i32_508
  let v573 : BitVec 32 := Scalar.addi c0_i32_509 v572
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v571 : BitVec 32 := Scalar.addi v5 c_m1_i32
  let c4_i32_510 : BitVec 32 := 4#32
  let v574 : BitVec 32 := Scalar.muli v571 c4_i32_510
  let v575 : BitVec 32 := Scalar.addi v573 v574
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_511 : BitVec 32 := 1#32
  let v576 : BitVec 32 := Scalar.muli v8 c1_i32_511
  let v577 : BitVec 32 := Scalar.addi v575 v576
  v577.toNat
def k0_dev53 (d0 : Dev nD) : Nat :=
  let c0_i32_528 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_527 : BitVec 32 := 16#32
  let v592 : BitVec 32 := Scalar.muli v2 c16_i32_527
  let v593 : BitVec 32 := Scalar.addi c0_i32_528 v592
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_522 : BitVec 32 := 4294967295#32
  let v591 : BitVec 32 := Scalar.addi v5 c_m1_i32_522
  let c4_i32_529 : BitVec 32 := 4#32
  let v594 : BitVec 32 := Scalar.muli v591 c4_i32_529
  let v595 : BitVec 32 := Scalar.addi v593 v594
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_530 : BitVec 32 := 1#32
  let v596 : BitVec 32 := Scalar.muli v8 c1_i32_530
  let v597 : BitVec 32 := Scalar.addi v595 v596
  v597.toNat
def k0_dev54 (d0 : Dev nD) : Nat :=
  let c0_i32_547 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_546 : BitVec 32 := 16#32
  let v612 : BitVec 32 := Scalar.muli v2 c16_i32_546
  let v613 : BitVec 32 := Scalar.addi c0_i32_547 v612
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_541 : BitVec 32 := 4294967295#32
  let v611 : BitVec 32 := Scalar.addi v5 c_m1_i32_541
  let c4_i32_548 : BitVec 32 := 4#32
  let v614 : BitVec 32 := Scalar.muli v611 c4_i32_548
  let v615 : BitVec 32 := Scalar.addi v613 v614
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_549 : BitVec 32 := 1#32
  let v616 : BitVec 32 := Scalar.muli v8 c1_i32_549
  let v617 : BitVec 32 := Scalar.addi v615 v616
  v617.toNat
def k0_dev55 (d0 : Dev nD) : Nat :=
  let c0_i32_566 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_565 : BitVec 32 := 16#32
  let v632 : BitVec 32 := Scalar.muli v2 c16_i32_565
  let v633 : BitVec 32 := Scalar.addi c0_i32_566 v632
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_560 : BitVec 32 := 4294967295#32
  let v631 : BitVec 32 := Scalar.addi v5 c_m1_i32_560
  let c4_i32_567 : BitVec 32 := 4#32
  let v634 : BitVec 32 := Scalar.muli v631 c4_i32_567
  let v635 : BitVec 32 := Scalar.addi v633 v634
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_568 : BitVec 32 := 1#32
  let v636 : BitVec 32 := Scalar.muli v8 c1_i32_568
  let v637 : BitVec 32 := Scalar.addi v635 v636
  v637.toNat
def k0_dev56 (d0 : Dev nD) : Nat :=
  let c0_i32_585 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_584 : BitVec 32 := 16#32
  let v652 : BitVec 32 := Scalar.muli v2 c16_i32_584
  let v653 : BitVec 32 := Scalar.addi c0_i32_585 v652
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_579 : BitVec 32 := 4294967295#32
  let v651 : BitVec 32 := Scalar.addi v5 c_m1_i32_579
  let c4_i32_586 : BitVec 32 := 4#32
  let v654 : BitVec 32 := Scalar.muli v651 c4_i32_586
  let v655 : BitVec 32 := Scalar.addi v653 v654
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_587 : BitVec 32 := 1#32
  let v656 : BitVec 32 := Scalar.muli v8 c1_i32_587
  let v657 : BitVec 32 := Scalar.addi v655 v656
  v657.toNat
def k0_dev57 (d0 : Dev nD) : Nat :=
  let c0_i32_604 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_603 : BitVec 32 := 16#32
  let v672 : BitVec 32 := Scalar.muli v2 c16_i32_603
  let v673 : BitVec 32 := Scalar.addi c0_i32_604 v672
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_598 : BitVec 32 := 4294967295#32
  let v671 : BitVec 32 := Scalar.addi v5 c_m1_i32_598
  let c4_i32_605 : BitVec 32 := 4#32
  let v674 : BitVec 32 := Scalar.muli v671 c4_i32_605
  let v675 : BitVec 32 := Scalar.addi v673 v674
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_606 : BitVec 32 := 1#32
  let v676 : BitVec 32 := Scalar.muli v8 c1_i32_606
  let v677 : BitVec 32 := Scalar.addi v675 v676
  v677.toNat
def k0_dev58 (d0 : Dev nD) : Nat :=
  let c0_i32_623 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_622 : BitVec 32 := 16#32
  let v692 : BitVec 32 := Scalar.muli v2 c16_i32_622
  let v693 : BitVec 32 := Scalar.addi c0_i32_623 v692
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_617 : BitVec 32 := 4294967295#32
  let v691 : BitVec 32 := Scalar.addi v5 c_m1_i32_617
  let c4_i32_624 : BitVec 32 := 4#32
  let v694 : BitVec 32 := Scalar.muli v691 c4_i32_624
  let v695 : BitVec 32 := Scalar.addi v693 v694
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_625 : BitVec 32 := 1#32
  let v696 : BitVec 32 := Scalar.muli v8 c1_i32_625
  let v697 : BitVec 32 := Scalar.addi v695 v696
  v697.toNat
def k0_dev59 (d0 : Dev nD) : Nat :=
  let c0_i32_642 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_641 : BitVec 32 := 16#32
  let v712 : BitVec 32 := Scalar.muli v2 c16_i32_641
  let v713 : BitVec 32 := Scalar.addi c0_i32_642 v712
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_636 : BitVec 32 := 4294967295#32
  let v711 : BitVec 32 := Scalar.addi v5 c_m1_i32_636
  let c4_i32_643 : BitVec 32 := 4#32
  let v714 : BitVec 32 := Scalar.muli v711 c4_i32_643
  let v715 : BitVec 32 := Scalar.addi v713 v714
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_644 : BitVec 32 := 1#32
  let v716 : BitVec 32 := Scalar.muli v8 c1_i32_644
  let v717 : BitVec 32 := Scalar.addi v715 v716
  v717.toNat
def k0_dev60 (d0 : Dev nD) : Nat :=
  let c0_i32_661 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_660 : BitVec 32 := 16#32
  let v732 : BitVec 32 := Scalar.muli v2 c16_i32_660
  let v733 : BitVec 32 := Scalar.addi c0_i32_661 v732
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_655 : BitVec 32 := 4294967295#32
  let v731 : BitVec 32 := Scalar.addi v5 c_m1_i32_655
  let c4_i32_662 : BitVec 32 := 4#32
  let v734 : BitVec 32 := Scalar.muli v731 c4_i32_662
  let v735 : BitVec 32 := Scalar.addi v733 v734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_663 : BitVec 32 := 1#32
  let v736 : BitVec 32 := Scalar.muli v8 c1_i32_663
  let v737 : BitVec 32 := Scalar.addi v735 v736
  v737.toNat
def k0_dev61 (d0 : Dev nD) : Nat :=
  let c0_i32_680 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_679 : BitVec 32 := 16#32
  let v752 : BitVec 32 := Scalar.muli v2 c16_i32_679
  let v753 : BitVec 32 := Scalar.addi c0_i32_680 v752
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_674 : BitVec 32 := 4294967295#32
  let v751 : BitVec 32 := Scalar.addi v5 c_m1_i32_674
  let c4_i32_681 : BitVec 32 := 4#32
  let v754 : BitVec 32 := Scalar.muli v751 c4_i32_681
  let v755 : BitVec 32 := Scalar.addi v753 v754
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_682 : BitVec 32 := 1#32
  let v756 : BitVec 32 := Scalar.muli v8 c1_i32_682
  let v757 : BitVec 32 := Scalar.addi v755 v756
  v757.toNat
def k0_dev62 (d0 : Dev nD) : Nat :=
  let c0_i32_699 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_698 : BitVec 32 := 16#32
  let v772 : BitVec 32 := Scalar.muli v2 c16_i32_698
  let v773 : BitVec 32 := Scalar.addi c0_i32_699 v772
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_693 : BitVec 32 := 4294967295#32
  let v771 : BitVec 32 := Scalar.addi v5 c_m1_i32_693
  let c4_i32_700 : BitVec 32 := 4#32
  let v774 : BitVec 32 := Scalar.muli v771 c4_i32_700
  let v775 : BitVec 32 := Scalar.addi v773 v774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_701 : BitVec 32 := 1#32
  let v776 : BitVec 32 := Scalar.muli v8 c1_i32_701
  let v777 : BitVec 32 := Scalar.addi v775 v776
  v777.toNat
def k0_dev63 (d0 : Dev nD) : Nat :=
  let c0_i32_718 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_717 : BitVec 32 := 16#32
  let v792 : BitVec 32 := Scalar.muli v2 c16_i32_717
  let v793 : BitVec 32 := Scalar.addi c0_i32_718 v792
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_712 : BitVec 32 := 4294967295#32
  let v791 : BitVec 32 := Scalar.addi v5 c_m1_i32_712
  let c4_i32_719 : BitVec 32 := 4#32
  let v794 : BitVec 32 := Scalar.muli v791 c4_i32_719
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_720 : BitVec 32 := 1#32
  let v796 : BitVec 32 := Scalar.muli v8 c1_i32_720
  let v797 : BitVec 32 := Scalar.addi v795 v796
  v797.toNat
def k0_dev64 (d0 : Dev nD) : Nat :=
  let c0_i32_737 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_736 : BitVec 32 := 16#32
  let v812 : BitVec 32 := Scalar.muli v2 c16_i32_736
  let v813 : BitVec 32 := Scalar.addi c0_i32_737 v812
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_731 : BitVec 32 := 4294967295#32
  let v811 : BitVec 32 := Scalar.addi v5 c_m1_i32_731
  let c4_i32_738 : BitVec 32 := 4#32
  let v814 : BitVec 32 := Scalar.muli v811 c4_i32_738
  let v815 : BitVec 32 := Scalar.addi v813 v814
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v816 : BitVec 32 := Scalar.muli v8 c1_i32_739
  let v817 : BitVec 32 := Scalar.addi v815 v816
  v817.toNat
def k0_dev65 (d0 : Dev nD) : Nat :=
  let c0_i32_756 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_755 : BitVec 32 := 16#32
  let v832 : BitVec 32 := Scalar.muli v2 c16_i32_755
  let v833 : BitVec 32 := Scalar.addi c0_i32_756 v832
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_750 : BitVec 32 := 4294967295#32
  let v831 : BitVec 32 := Scalar.addi v5 c_m1_i32_750
  let c4_i32_757 : BitVec 32 := 4#32
  let v834 : BitVec 32 := Scalar.muli v831 c4_i32_757
  let v835 : BitVec 32 := Scalar.addi v833 v834
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v836 : BitVec 32 := Scalar.muli v8 c1_i32_758
  let v837 : BitVec 32 := Scalar.addi v835 v836
  v837.toNat
def k0_dev66 (d0 : Dev nD) : Nat :=
  let c0_i32_775 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_774 : BitVec 32 := 16#32
  let v852 : BitVec 32 := Scalar.muli v2 c16_i32_774
  let v853 : BitVec 32 := Scalar.addi c0_i32_775 v852
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_769 : BitVec 32 := 4294967295#32
  let v851 : BitVec 32 := Scalar.addi v5 c_m1_i32_769
  let c4_i32_776 : BitVec 32 := 4#32
  let v854 : BitVec 32 := Scalar.muli v851 c4_i32_776
  let v855 : BitVec 32 := Scalar.addi v853 v854
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_777 : BitVec 32 := 1#32
  let v856 : BitVec 32 := Scalar.muli v8 c1_i32_777
  let v857 : BitVec 32 := Scalar.addi v855 v856
  v857.toNat
def k0_dev67 (d0 : Dev nD) : Nat :=
  let c0_i32_794 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_793 : BitVec 32 := 16#32
  let v872 : BitVec 32 := Scalar.muli v2 c16_i32_793
  let v873 : BitVec 32 := Scalar.addi c0_i32_794 v872
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_788 : BitVec 32 := 4294967295#32
  let v871 : BitVec 32 := Scalar.addi v5 c_m1_i32_788
  let c4_i32_795 : BitVec 32 := 4#32
  let v874 : BitVec 32 := Scalar.muli v871 c4_i32_795
  let v875 : BitVec 32 := Scalar.addi v873 v874
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_796 : BitVec 32 := 1#32
  let v876 : BitVec 32 := Scalar.muli v8 c1_i32_796
  let v877 : BitVec 32 := Scalar.addi v875 v876
  v877.toNat
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_823 : BitVec 1 := 1#1
  let v907 : BitVec 1 := Scalar.xori v10 true_823
  let v908 : BitVec 32 := Scalar.extui v907
  let c0_i32_824 : BitVec 32 := 0#32
  let v909 : BitVec 1 := Scalar.cmpi .ne v908 c0_i32_824
  v909

def k0_dev68 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_off3 (d0 : Dev nD) (c0_i32_834 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v11 : BitVec 32 := Scalar.muli v2 c512_i32
  let v921 : BitVec 32 := Scalar.addi v11 c0_i32_834
  let v922 : Index := Scalar.indexCast v921
  let c0_835 : Index := 0#32
  ![v922.toNat, 0]
def k0_dev69 (d0 : Dev nD) : Nat :=
  let c0_i32_847 : BitVec 32 := 0#32
  let c1_i32_841 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v945 : BitVec 32 := Scalar.subi c1_i32_841 v2
  let c16_i32_846 : BitVec 32 := 16#32
  let v946 : BitVec 32 := Scalar.muli v945 c16_i32_846
  let v947 : BitVec 32 := Scalar.addi c0_i32_847 v946
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_848 : BitVec 32 := 4#32
  let v948 : BitVec 32 := Scalar.muli v5 c4_i32_848
  let v949 : BitVec 32 := Scalar.addi v947 v948
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_849 : BitVec 32 := 1#32
  let v950 : BitVec 32 := Scalar.muli v8 c1_i32_849
  let v951 : BitVec 32 := Scalar.addi v949 v950
  v951.toNat
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_878 : BitVec 1 := 1#1
  let v984 : BitVec 1 := Scalar.xori v10 true_878
  let v985 : BitVec 32 := Scalar.extui v984
  let c0_i32_879 : BitVec 32 := 0#32
  let v986 : BitVec 1 := Scalar.cmpi .ne v985 c0_i32_879
  v986

def k0_dev70 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev71 (d0 : Dev nD) : Nat :=
  let c0_i32_903 : BitVec 32 := 0#32
  let c1_i32_897 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1022 : BitVec 32 := Scalar.subi c1_i32_897 v2
  let c16_i32_902 : BitVec 32 := 16#32
  let v1023 : BitVec 32 := Scalar.muli v1022 c16_i32_902
  let v1024 : BitVec 32 := Scalar.addi c0_i32_903 v1023
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_904 : BitVec 32 := 4#32
  let v1025 : BitVec 32 := Scalar.muli v5 c4_i32_904
  let v1026 : BitVec 32 := Scalar.addi v1024 v1025
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_905 : BitVec 32 := 1#32
  let v1027 : BitVec 32 := Scalar.muli v8 c1_i32_905
  let v1028 : BitVec 32 := Scalar.addi v1026 v1027
  v1028.toNat
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_934 : BitVec 1 := 1#1
  let v1061 : BitVec 1 := Scalar.xori v10 true_934
  let v1062 : BitVec 32 := Scalar.extui v1061
  let c0_i32_935 : BitVec 32 := 0#32
  let v1063 : BitVec 1 := Scalar.cmpi .ne v1062 c0_i32_935
  v1063

def k0_dev72 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev73 (d0 : Dev nD) : Nat :=
  let c0_i32_959 : BitVec 32 := 0#32
  let c1_i32_953 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1099 : BitVec 32 := Scalar.subi c1_i32_953 v2
  let c16_i32_958 : BitVec 32 := 16#32
  let v1100 : BitVec 32 := Scalar.muli v1099 c16_i32_958
  let v1101 : BitVec 32 := Scalar.addi c0_i32_959 v1100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_960 : BitVec 32 := 4#32
  let v1102 : BitVec 32 := Scalar.muli v5 c4_i32_960
  let v1103 : BitVec 32 := Scalar.addi v1101 v1102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1104 : BitVec 32 := Scalar.muli v8 c1_i32_961
  let v1105 : BitVec 32 := Scalar.addi v1103 v1104
  v1105.toNat
def k0_cond26 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_990 : BitVec 1 := 1#1
  let v1138 : BitVec 1 := Scalar.xori v10 true_990
  let v1139 : BitVec 32 := Scalar.extui v1138
  let c0_i32_991 : BitVec 32 := 0#32
  let v1140 : BitVec 1 := Scalar.cmpi .ne v1139 c0_i32_991
  v1140

def k0_dev74 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev75 (d0 : Dev nD) : Nat :=
  let c0_i32_1015 : BitVec 32 := 0#32
  let c1_i32_1009 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1176 : BitVec 32 := Scalar.subi c1_i32_1009 v2
  let c16_i32_1014 : BitVec 32 := 16#32
  let v1177 : BitVec 32 := Scalar.muli v1176 c16_i32_1014
  let v1178 : BitVec 32 := Scalar.addi c0_i32_1015 v1177
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1016 : BitVec 32 := 4#32
  let v1179 : BitVec 32 := Scalar.muli v5 c4_i32_1016
  let v1180 : BitVec 32 := Scalar.addi v1178 v1179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1017 : BitVec 32 := 1#32
  let v1181 : BitVec 32 := Scalar.muli v8 c1_i32_1017
  let v1182 : BitVec 32 := Scalar.addi v1180 v1181
  v1182.toNat
def k0_cond27 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1046 : BitVec 1 := 1#1
  let v1215 : BitVec 1 := Scalar.xori v10 true_1046
  let v1216 : BitVec 32 := Scalar.extui v1215
  let c0_i32_1047 : BitVec 32 := 0#32
  let v1217 : BitVec 1 := Scalar.cmpi .ne v1216 c0_i32_1047
  v1217

def k0_dev76 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev77 (d0 : Dev nD) : Nat :=
  let c0_i32_1071 : BitVec 32 := 0#32
  let c1_i32_1065 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1253 : BitVec 32 := Scalar.subi c1_i32_1065 v2
  let c16_i32_1070 : BitVec 32 := 16#32
  let v1254 : BitVec 32 := Scalar.muli v1253 c16_i32_1070
  let v1255 : BitVec 32 := Scalar.addi c0_i32_1071 v1254
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1072 : BitVec 32 := 4#32
  let v1256 : BitVec 32 := Scalar.muli v5 c4_i32_1072
  let v1257 : BitVec 32 := Scalar.addi v1255 v1256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1073 : BitVec 32 := 1#32
  let v1258 : BitVec 32 := Scalar.muli v8 c1_i32_1073
  let v1259 : BitVec 32 := Scalar.addi v1257 v1258
  v1259.toNat
def k0_cond28 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1102 : BitVec 1 := 1#1
  let v1292 : BitVec 1 := Scalar.xori v10 true_1102
  let v1293 : BitVec 32 := Scalar.extui v1292
  let c0_i32_1103 : BitVec 32 := 0#32
  let v1294 : BitVec 1 := Scalar.cmpi .ne v1293 c0_i32_1103
  v1294

def k0_dev78 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev79 (d0 : Dev nD) : Nat :=
  let c0_i32_1127 : BitVec 32 := 0#32
  let c1_i32_1121 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1330 : BitVec 32 := Scalar.subi c1_i32_1121 v2
  let c16_i32_1126 : BitVec 32 := 16#32
  let v1331 : BitVec 32 := Scalar.muli v1330 c16_i32_1126
  let v1332 : BitVec 32 := Scalar.addi c0_i32_1127 v1331
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1128 : BitVec 32 := 4#32
  let v1333 : BitVec 32 := Scalar.muli v5 c4_i32_1128
  let v1334 : BitVec 32 := Scalar.addi v1332 v1333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1129 : BitVec 32 := 1#32
  let v1335 : BitVec 32 := Scalar.muli v8 c1_i32_1129
  let v1336 : BitVec 32 := Scalar.addi v1334 v1335
  v1336.toNat
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1158 : BitVec 1 := 1#1
  let v1369 : BitVec 1 := Scalar.xori v10 true_1158
  let v1370 : BitVec 32 := Scalar.extui v1369
  let c0_i32_1159 : BitVec 32 := 0#32
  let v1371 : BitVec 1 := Scalar.cmpi .ne v1370 c0_i32_1159
  v1371

def k0_dev80 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev81 (d0 : Dev nD) : Nat :=
  let c0_i32_1183 : BitVec 32 := 0#32
  let c1_i32_1177 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1407 : BitVec 32 := Scalar.subi c1_i32_1177 v2
  let c16_i32_1182 : BitVec 32 := 16#32
  let v1408 : BitVec 32 := Scalar.muli v1407 c16_i32_1182
  let v1409 : BitVec 32 := Scalar.addi c0_i32_1183 v1408
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1184 : BitVec 32 := 4#32
  let v1410 : BitVec 32 := Scalar.muli v5 c4_i32_1184
  let v1411 : BitVec 32 := Scalar.addi v1409 v1410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1185 : BitVec 32 := 1#32
  let v1412 : BitVec 32 := Scalar.muli v8 c1_i32_1185
  let v1413 : BitVec 32 := Scalar.addi v1411 v1412
  v1413.toNat
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1214 : BitVec 1 := 1#1
  let v1446 : BitVec 1 := Scalar.xori v10 true_1214
  let v1447 : BitVec 32 := Scalar.extui v1446
  let c0_i32_1215 : BitVec 32 := 0#32
  let v1448 : BitVec 1 := Scalar.cmpi .ne v1447 c0_i32_1215
  v1448

def k0_dev82 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev83 (d0 : Dev nD) : Nat :=
  let c0_i32_1239 : BitVec 32 := 0#32
  let c1_i32_1233 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1484 : BitVec 32 := Scalar.subi c1_i32_1233 v2
  let c16_i32_1238 : BitVec 32 := 16#32
  let v1485 : BitVec 32 := Scalar.muli v1484 c16_i32_1238
  let v1486 : BitVec 32 := Scalar.addi c0_i32_1239 v1485
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1240 : BitVec 32 := 4#32
  let v1487 : BitVec 32 := Scalar.muli v5 c4_i32_1240
  let v1488 : BitVec 32 := Scalar.addi v1486 v1487
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1241 : BitVec 32 := 1#32
  let v1489 : BitVec 32 := Scalar.muli v8 c1_i32_1241
  let v1490 : BitVec 32 := Scalar.addi v1488 v1489
  v1490.toNat
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1270 : BitVec 1 := 1#1
  let v1523 : BitVec 1 := Scalar.xori v10 true_1270
  let v1524 : BitVec 32 := Scalar.extui v1523
  let c0_i32_1271 : BitVec 32 := 0#32
  let v1525 : BitVec 1 := Scalar.cmpi .ne v1524 c0_i32_1271
  v1525

def k0_dev84 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev85 (d0 : Dev nD) : Nat :=
  let c0_i32_1295 : BitVec 32 := 0#32
  let c1_i32_1289 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1561 : BitVec 32 := Scalar.subi c1_i32_1289 v2
  let c16_i32_1294 : BitVec 32 := 16#32
  let v1562 : BitVec 32 := Scalar.muli v1561 c16_i32_1294
  let v1563 : BitVec 32 := Scalar.addi c0_i32_1295 v1562
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1296 : BitVec 32 := 4#32
  let v1564 : BitVec 32 := Scalar.muli v5 c4_i32_1296
  let v1565 : BitVec 32 := Scalar.addi v1563 v1564
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1297 : BitVec 32 := 1#32
  let v1566 : BitVec 32 := Scalar.muli v8 c1_i32_1297
  let v1567 : BitVec 32 := Scalar.addi v1565 v1566
  v1567.toNat
def k0_cond32 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1326 : BitVec 1 := 1#1
  let v1600 : BitVec 1 := Scalar.xori v10 true_1326
  let v1601 : BitVec 32 := Scalar.extui v1600
  let c0_i32_1327 : BitVec 32 := 0#32
  let v1602 : BitVec 1 := Scalar.cmpi .ne v1601 c0_i32_1327
  v1602

def k0_dev86 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev87 (d0 : Dev nD) : Nat :=
  let c0_i32_1351 : BitVec 32 := 0#32
  let c1_i32_1345 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1638 : BitVec 32 := Scalar.subi c1_i32_1345 v2
  let c16_i32_1350 : BitVec 32 := 16#32
  let v1639 : BitVec 32 := Scalar.muli v1638 c16_i32_1350
  let v1640 : BitVec 32 := Scalar.addi c0_i32_1351 v1639
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1352 : BitVec 32 := 4#32
  let v1641 : BitVec 32 := Scalar.muli v5 c4_i32_1352
  let v1642 : BitVec 32 := Scalar.addi v1640 v1641
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1353 : BitVec 32 := 1#32
  let v1643 : BitVec 32 := Scalar.muli v8 c1_i32_1353
  let v1644 : BitVec 32 := Scalar.addi v1642 v1643
  v1644.toNat
def k0_cond33 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1382 : BitVec 1 := 1#1
  let v1677 : BitVec 1 := Scalar.xori v10 true_1382
  let v1678 : BitVec 32 := Scalar.extui v1677
  let c0_i32_1383 : BitVec 32 := 0#32
  let v1679 : BitVec 1 := Scalar.cmpi .ne v1678 c0_i32_1383
  v1679

def k0_dev88 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev89 (d0 : Dev nD) : Nat :=
  let c0_i32_1407 : BitVec 32 := 0#32
  let c1_i32_1401 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1715 : BitVec 32 := Scalar.subi c1_i32_1401 v2
  let c16_i32_1406 : BitVec 32 := 16#32
  let v1716 : BitVec 32 := Scalar.muli v1715 c16_i32_1406
  let v1717 : BitVec 32 := Scalar.addi c0_i32_1407 v1716
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1408 : BitVec 32 := 4#32
  let v1718 : BitVec 32 := Scalar.muli v5 c4_i32_1408
  let v1719 : BitVec 32 := Scalar.addi v1717 v1718
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1409 : BitVec 32 := 1#32
  let v1720 : BitVec 32 := Scalar.muli v8 c1_i32_1409
  let v1721 : BitVec 32 := Scalar.addi v1719 v1720
  v1721.toNat
def k0_cond34 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1438 : BitVec 1 := 1#1
  let v1754 : BitVec 1 := Scalar.xori v10 true_1438
  let v1755 : BitVec 32 := Scalar.extui v1754
  let c0_i32_1439 : BitVec 32 := 0#32
  let v1756 : BitVec 1 := Scalar.cmpi .ne v1755 c0_i32_1439
  v1756

def k0_dev90 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev91 (d0 : Dev nD) : Nat :=
  let c0_i32_1463 : BitVec 32 := 0#32
  let c1_i32_1457 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1792 : BitVec 32 := Scalar.subi c1_i32_1457 v2
  let c16_i32_1462 : BitVec 32 := 16#32
  let v1793 : BitVec 32 := Scalar.muli v1792 c16_i32_1462
  let v1794 : BitVec 32 := Scalar.addi c0_i32_1463 v1793
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1464 : BitVec 32 := 4#32
  let v1795 : BitVec 32 := Scalar.muli v5 c4_i32_1464
  let v1796 : BitVec 32 := Scalar.addi v1794 v1795
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1465 : BitVec 32 := 1#32
  let v1797 : BitVec 32 := Scalar.muli v8 c1_i32_1465
  let v1798 : BitVec 32 := Scalar.addi v1796 v1797
  v1798.toNat
def k0_cond35 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1494 : BitVec 1 := 1#1
  let v1831 : BitVec 1 := Scalar.xori v10 true_1494
  let v1832 : BitVec 32 := Scalar.extui v1831
  let c0_i32_1495 : BitVec 32 := 0#32
  let v1833 : BitVec 1 := Scalar.cmpi .ne v1832 c0_i32_1495
  v1833

def k0_dev92 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev93 (d0 : Dev nD) : Nat :=
  let c0_i32_1519 : BitVec 32 := 0#32
  let c1_i32_1513 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1869 : BitVec 32 := Scalar.subi c1_i32_1513 v2
  let c16_i32_1518 : BitVec 32 := 16#32
  let v1870 : BitVec 32 := Scalar.muli v1869 c16_i32_1518
  let v1871 : BitVec 32 := Scalar.addi c0_i32_1519 v1870
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1520 : BitVec 32 := 4#32
  let v1872 : BitVec 32 := Scalar.muli v5 c4_i32_1520
  let v1873 : BitVec 32 := Scalar.addi v1871 v1872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1521 : BitVec 32 := 1#32
  let v1874 : BitVec 32 := Scalar.muli v8 c1_i32_1521
  let v1875 : BitVec 32 := Scalar.addi v1873 v1874
  v1875.toNat
def k0_cond36 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1550 : BitVec 1 := 1#1
  let v1908 : BitVec 1 := Scalar.xori v10 true_1550
  let v1909 : BitVec 32 := Scalar.extui v1908
  let c0_i32_1551 : BitVec 32 := 0#32
  let v1910 : BitVec 1 := Scalar.cmpi .ne v1909 c0_i32_1551
  v1910

def k0_dev94 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev95 (d0 : Dev nD) : Nat :=
  let c0_i32_1575 : BitVec 32 := 0#32
  let c1_i32_1569 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1946 : BitVec 32 := Scalar.subi c1_i32_1569 v2
  let c16_i32_1574 : BitVec 32 := 16#32
  let v1947 : BitVec 32 := Scalar.muli v1946 c16_i32_1574
  let v1948 : BitVec 32 := Scalar.addi c0_i32_1575 v1947
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1576 : BitVec 32 := 4#32
  let v1949 : BitVec 32 := Scalar.muli v5 c4_i32_1576
  let v1950 : BitVec 32 := Scalar.addi v1948 v1949
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1577 : BitVec 32 := 1#32
  let v1951 : BitVec 32 := Scalar.muli v8 c1_i32_1577
  let v1952 : BitVec 32 := Scalar.addi v1950 v1951
  v1952.toNat
def k0_cond37 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1606 : BitVec 1 := 1#1
  let v1985 : BitVec 1 := Scalar.xori v10 true_1606
  let v1986 : BitVec 32 := Scalar.extui v1985
  let c0_i32_1607 : BitVec 32 := 0#32
  let v1987 : BitVec 1 := Scalar.cmpi .ne v1986 c0_i32_1607
  v1987

def k0_dev96 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev97 (d0 : Dev nD) : Nat :=
  let c0_i32_1631 : BitVec 32 := 0#32
  let c1_i32_1625 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2023 : BitVec 32 := Scalar.subi c1_i32_1625 v2
  let c16_i32_1630 : BitVec 32 := 16#32
  let v2024 : BitVec 32 := Scalar.muli v2023 c16_i32_1630
  let v2025 : BitVec 32 := Scalar.addi c0_i32_1631 v2024
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1632 : BitVec 32 := 4#32
  let v2026 : BitVec 32 := Scalar.muli v5 c4_i32_1632
  let v2027 : BitVec 32 := Scalar.addi v2025 v2026
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1633 : BitVec 32 := 1#32
  let v2028 : BitVec 32 := Scalar.muli v8 c1_i32_1633
  let v2029 : BitVec 32 := Scalar.addi v2027 v2028
  v2029.toNat
def k0_cond38 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1662 : BitVec 1 := 1#1
  let v2062 : BitVec 1 := Scalar.xori v10 true_1662
  let v2063 : BitVec 32 := Scalar.extui v2062
  let c0_i32_1663 : BitVec 32 := 0#32
  let v2064 : BitVec 1 := Scalar.cmpi .ne v2063 c0_i32_1663
  v2064

def k0_dev98 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v2119 : BitVec 32 := Scalar.muli v2 c16_i32_1701
  let v2120 : BitVec 32 := Scalar.addi c0_i32_1702 v2119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1696 : BitVec 32 := 1#32
  let v2118 : BitVec 32 := Scalar.addi v5 c1_i32_1696
  let c4_i32_1703 : BitVec 32 := 4#32
  let v2121 : BitVec 32 := Scalar.muli v2118 c4_i32_1703
  let v2122 : BitVec 32 := Scalar.addi v2120 v2121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2123 : BitVec 32 := Scalar.muli v8 c1_i32_1704
  let v2124 : BitVec 32 := Scalar.addi v2122 v2123
  v2124.toNat
def k0_dev99 (d0 : Dev nD) : Nat :=
  let c0_i32_1687 : BitVec 32 := 0#32
  let c1_i32_1681 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2100 : BitVec 32 := Scalar.subi c1_i32_1681 v2
  let c16_i32_1686 : BitVec 32 := 16#32
  let v2101 : BitVec 32 := Scalar.muli v2100 c16_i32_1686
  let v2102 : BitVec 32 := Scalar.addi c0_i32_1687 v2101
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1688 : BitVec 32 := 4#32
  let v2103 : BitVec 32 := Scalar.muli v5 c4_i32_1688
  let v2104 : BitVec 32 := Scalar.addi v2102 v2103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1689 : BitVec 32 := 1#32
  let v2105 : BitVec 32 := Scalar.muli v8 c1_i32_1689
  let v2106 : BitVec 32 := Scalar.addi v2104 v2105
  v2106.toNat
def k0_cond39 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_23 : BitVec 32 := 1#32
  let v48 : BitVec 1 := Scalar.cmpi .eq v5 c1_i32_23
  let v49 : BitVec 32 := Scalar.extui v48
  let c0_i32_24 : BitVec 32 := 0#32
  let v50 : BitVec 1 := Scalar.cmpi .ne v49 c0_i32_24
  v50

def k0_cond40 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_519 : BitVec 1 := 1#1
  let v587 : BitVec 1 := Scalar.xori v10 true_519
  let v588 : BitVec 32 := Scalar.extui v587
  let c0_i32_520 : BitVec 32 := 0#32
  let v589 : BitVec 1 := Scalar.cmpi .ne v588 c0_i32_520
  v589

def k0_dev100 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond41 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_543 : BitVec 1 := 1#1
  let v611 : BitVec 1 := Scalar.xori v10 true_543
  let v612 : BitVec 32 := Scalar.extui v611
  let c0_i32_544 : BitVec 32 := 0#32
  let v613 : BitVec 1 := Scalar.cmpi .ne v612 c0_i32_544
  v613

def k0_dev101 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond42 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_567 : BitVec 1 := 1#1
  let v635 : BitVec 1 := Scalar.xori v10 true_567
  let v636 : BitVec 32 := Scalar.extui v635
  let c0_i32_568 : BitVec 32 := 0#32
  let v637 : BitVec 1 := Scalar.cmpi .ne v636 c0_i32_568
  v637

def k0_dev102 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond43 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_591 : BitVec 1 := 1#1
  let v659 : BitVec 1 := Scalar.xori v10 true_591
  let v660 : BitVec 32 := Scalar.extui v659
  let c0_i32_592 : BitVec 32 := 0#32
  let v661 : BitVec 1 := Scalar.cmpi .ne v660 c0_i32_592
  v661

def k0_dev103 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond44 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_615 : BitVec 1 := 1#1
  let v683 : BitVec 1 := Scalar.xori v9 true_615
  let v684 : BitVec 32 := Scalar.extui v683
  let c0_i32_616 : BitVec 32 := 0#32
  let v685 : BitVec 1 := Scalar.cmpi .ne v684 c0_i32_616
  v685

def k0_dev104 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_off4 (d0 : Dev nD) (c0_i32_626 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v11 : BitVec 32 := Scalar.muli v2 c512_i32
  let v697 : BitVec 32 := Scalar.addi v11 c0_i32_626
  let v698 : Index := Scalar.indexCast v697
  let c0_627 : Index := 0#32
  ![v698.toNat, 0]
def k0_dev105 (d0 : Dev nD) : Nat :=
  let c0_i32_639 : BitVec 32 := 0#32
  let c1_i32_633 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v721 : BitVec 32 := Scalar.subi c1_i32_633 v2
  let c16_i32_638 : BitVec 32 := 16#32
  let v722 : BitVec 32 := Scalar.muli v721 c16_i32_638
  let v723 : BitVec 32 := Scalar.addi c0_i32_639 v722
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_640 : BitVec 32 := 4#32
  let v724 : BitVec 32 := Scalar.muli v5 c4_i32_640
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_641 : BitVec 32 := 1#32
  let v726 : BitVec 32 := Scalar.muli v8 c1_i32_641
  let v727 : BitVec 32 := Scalar.addi v725 v726
  v727.toNat
def k0_cond45 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_670 : BitVec 1 := 1#1
  let v760 : BitVec 1 := Scalar.xori v10 true_670
  let v761 : BitVec 32 := Scalar.extui v760
  let c0_i32_671 : BitVec 32 := 0#32
  let v762 : BitVec 1 := Scalar.cmpi .ne v761 c0_i32_671
  v762

def k0_dev106 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond46 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_694 : BitVec 1 := 1#1
  let v784 : BitVec 1 := Scalar.xori v9 true_694
  let v785 : BitVec 32 := Scalar.extui v784
  let c0_i32_695 : BitVec 32 := 0#32
  let v786 : BitVec 1 := Scalar.cmpi .ne v785 c0_i32_695
  v786

def k0_dev107 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev108 (d0 : Dev nD) : Nat :=
  let c0_i32_719 : BitVec 32 := 0#32
  let c1_i32_713 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v822 : BitVec 32 := Scalar.subi c1_i32_713 v2
  let c16_i32_718 : BitVec 32 := 16#32
  let v823 : BitVec 32 := Scalar.muli v822 c16_i32_718
  let v824 : BitVec 32 := Scalar.addi c0_i32_719 v823
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_720 : BitVec 32 := 4#32
  let v825 : BitVec 32 := Scalar.muli v5 c4_i32_720
  let v826 : BitVec 32 := Scalar.addi v824 v825
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_721 : BitVec 32 := 1#32
  let v827 : BitVec 32 := Scalar.muli v8 c1_i32_721
  let v828 : BitVec 32 := Scalar.addi v826 v827
  v828.toNat
def k0_cond47 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_750 : BitVec 1 := 1#1
  let v861 : BitVec 1 := Scalar.xori v10 true_750
  let v862 : BitVec 32 := Scalar.extui v861
  let c0_i32_751 : BitVec 32 := 0#32
  let v863 : BitVec 1 := Scalar.cmpi .ne v862 c0_i32_751
  v863

def k0_dev109 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond48 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_774 : BitVec 1 := 1#1
  let v885 : BitVec 1 := Scalar.xori v9 true_774
  let v886 : BitVec 32 := Scalar.extui v885
  let c0_i32_775 : BitVec 32 := 0#32
  let v887 : BitVec 1 := Scalar.cmpi .ne v886 c0_i32_775
  v887

def k0_dev110 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev111 (d0 : Dev nD) : Nat :=
  let c0_i32_799 : BitVec 32 := 0#32
  let c1_i32_793 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v923 : BitVec 32 := Scalar.subi c1_i32_793 v2
  let c16_i32_798 : BitVec 32 := 16#32
  let v924 : BitVec 32 := Scalar.muli v923 c16_i32_798
  let v925 : BitVec 32 := Scalar.addi c0_i32_799 v924
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_800 : BitVec 32 := 4#32
  let v926 : BitVec 32 := Scalar.muli v5 c4_i32_800
  let v927 : BitVec 32 := Scalar.addi v925 v926
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_801 : BitVec 32 := 1#32
  let v928 : BitVec 32 := Scalar.muli v8 c1_i32_801
  let v929 : BitVec 32 := Scalar.addi v927 v928
  v929.toNat
def k0_cond49 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_830 : BitVec 1 := 1#1
  let v962 : BitVec 1 := Scalar.xori v10 true_830
  let v963 : BitVec 32 := Scalar.extui v962
  let c0_i32_831 : BitVec 32 := 0#32
  let v964 : BitVec 1 := Scalar.cmpi .ne v963 c0_i32_831
  v964

def k0_dev112 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond50 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_854 : BitVec 1 := 1#1
  let v986 : BitVec 1 := Scalar.xori v9 true_854
  let v987 : BitVec 32 := Scalar.extui v986
  let c0_i32_855 : BitVec 32 := 0#32
  let v988 : BitVec 1 := Scalar.cmpi .ne v987 c0_i32_855
  v988

def k0_dev113 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev114 (d0 : Dev nD) : Nat :=
  let c0_i32_879 : BitVec 32 := 0#32
  let c1_i32_873 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1024 : BitVec 32 := Scalar.subi c1_i32_873 v2
  let c16_i32_878 : BitVec 32 := 16#32
  let v1025 : BitVec 32 := Scalar.muli v1024 c16_i32_878
  let v1026 : BitVec 32 := Scalar.addi c0_i32_879 v1025
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_880 : BitVec 32 := 4#32
  let v1027 : BitVec 32 := Scalar.muli v5 c4_i32_880
  let v1028 : BitVec 32 := Scalar.addi v1026 v1027
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_881 : BitVec 32 := 1#32
  let v1029 : BitVec 32 := Scalar.muli v8 c1_i32_881
  let v1030 : BitVec 32 := Scalar.addi v1028 v1029
  v1030.toNat
def k0_cond51 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_910 : BitVec 1 := 1#1
  let v1063 : BitVec 1 := Scalar.xori v10 true_910
  let v1064 : BitVec 32 := Scalar.extui v1063
  let c0_i32_911 : BitVec 32 := 0#32
  let v1065 : BitVec 1 := Scalar.cmpi .ne v1064 c0_i32_911
  v1065

def k0_dev115 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond52 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_934 : BitVec 1 := 1#1
  let v1087 : BitVec 1 := Scalar.xori v9 true_934
  let v1088 : BitVec 32 := Scalar.extui v1087
  let c0_i32_935 : BitVec 32 := 0#32
  let v1089 : BitVec 1 := Scalar.cmpi .ne v1088 c0_i32_935
  v1089

def k0_dev116 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev117 (d0 : Dev nD) : Nat :=
  let c0_i32_959 : BitVec 32 := 0#32
  let c1_i32_953 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1125 : BitVec 32 := Scalar.subi c1_i32_953 v2
  let c16_i32_958 : BitVec 32 := 16#32
  let v1126 : BitVec 32 := Scalar.muli v1125 c16_i32_958
  let v1127 : BitVec 32 := Scalar.addi c0_i32_959 v1126
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_960 : BitVec 32 := 4#32
  let v1128 : BitVec 32 := Scalar.muli v5 c4_i32_960
  let v1129 : BitVec 32 := Scalar.addi v1127 v1128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1130 : BitVec 32 := Scalar.muli v8 c1_i32_961
  let v1131 : BitVec 32 := Scalar.addi v1129 v1130
  v1131.toNat
def k0_cond53 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_990 : BitVec 1 := 1#1
  let v1164 : BitVec 1 := Scalar.xori v10 true_990
  let v1165 : BitVec 32 := Scalar.extui v1164
  let c0_i32_991 : BitVec 32 := 0#32
  let v1166 : BitVec 1 := Scalar.cmpi .ne v1165 c0_i32_991
  v1166

def k0_dev118 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond54 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1014 : BitVec 1 := 1#1
  let v1188 : BitVec 1 := Scalar.xori v9 true_1014
  let v1189 : BitVec 32 := Scalar.extui v1188
  let c0_i32_1015 : BitVec 32 := 0#32
  let v1190 : BitVec 1 := Scalar.cmpi .ne v1189 c0_i32_1015
  v1190

def k0_dev119 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev120 (d0 : Dev nD) : Nat :=
  let c0_i32_1039 : BitVec 32 := 0#32
  let c1_i32_1033 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1226 : BitVec 32 := Scalar.subi c1_i32_1033 v2
  let c16_i32_1038 : BitVec 32 := 16#32
  let v1227 : BitVec 32 := Scalar.muli v1226 c16_i32_1038
  let v1228 : BitVec 32 := Scalar.addi c0_i32_1039 v1227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1040 : BitVec 32 := 4#32
  let v1229 : BitVec 32 := Scalar.muli v5 c4_i32_1040
  let v1230 : BitVec 32 := Scalar.addi v1228 v1229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1041 : BitVec 32 := 1#32
  let v1231 : BitVec 32 := Scalar.muli v8 c1_i32_1041
  let v1232 : BitVec 32 := Scalar.addi v1230 v1231
  v1232.toNat
def k0_cond55 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1070 : BitVec 1 := 1#1
  let v1265 : BitVec 1 := Scalar.xori v10 true_1070
  let v1266 : BitVec 32 := Scalar.extui v1265
  let c0_i32_1071 : BitVec 32 := 0#32
  let v1267 : BitVec 1 := Scalar.cmpi .ne v1266 c0_i32_1071
  v1267

def k0_dev121 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond56 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1094 : BitVec 1 := 1#1
  let v1289 : BitVec 1 := Scalar.xori v9 true_1094
  let v1290 : BitVec 32 := Scalar.extui v1289
  let c0_i32_1095 : BitVec 32 := 0#32
  let v1291 : BitVec 1 := Scalar.cmpi .ne v1290 c0_i32_1095
  v1291

def k0_dev122 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev123 (d0 : Dev nD) : Nat :=
  let c0_i32_1119 : BitVec 32 := 0#32
  let c1_i32_1113 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1327 : BitVec 32 := Scalar.subi c1_i32_1113 v2
  let c16_i32_1118 : BitVec 32 := 16#32
  let v1328 : BitVec 32 := Scalar.muli v1327 c16_i32_1118
  let v1329 : BitVec 32 := Scalar.addi c0_i32_1119 v1328
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1120 : BitVec 32 := 4#32
  let v1330 : BitVec 32 := Scalar.muli v5 c4_i32_1120
  let v1331 : BitVec 32 := Scalar.addi v1329 v1330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1121 : BitVec 32 := 1#32
  let v1332 : BitVec 32 := Scalar.muli v8 c1_i32_1121
  let v1333 : BitVec 32 := Scalar.addi v1331 v1332
  v1333.toNat
def k0_cond57 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1150 : BitVec 1 := 1#1
  let v1366 : BitVec 1 := Scalar.xori v10 true_1150
  let v1367 : BitVec 32 := Scalar.extui v1366
  let c0_i32_1151 : BitVec 32 := 0#32
  let v1368 : BitVec 1 := Scalar.cmpi .ne v1367 c0_i32_1151
  v1368

def k0_dev124 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond58 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1174 : BitVec 1 := 1#1
  let v1390 : BitVec 1 := Scalar.xori v9 true_1174
  let v1391 : BitVec 32 := Scalar.extui v1390
  let c0_i32_1175 : BitVec 32 := 0#32
  let v1392 : BitVec 1 := Scalar.cmpi .ne v1391 c0_i32_1175
  v1392

def k0_dev125 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev126 (d0 : Dev nD) : Nat :=
  let c0_i32_1199 : BitVec 32 := 0#32
  let c1_i32_1193 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1428 : BitVec 32 := Scalar.subi c1_i32_1193 v2
  let c16_i32_1198 : BitVec 32 := 16#32
  let v1429 : BitVec 32 := Scalar.muli v1428 c16_i32_1198
  let v1430 : BitVec 32 := Scalar.addi c0_i32_1199 v1429
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1200 : BitVec 32 := 4#32
  let v1431 : BitVec 32 := Scalar.muli v5 c4_i32_1200
  let v1432 : BitVec 32 := Scalar.addi v1430 v1431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1201 : BitVec 32 := 1#32
  let v1433 : BitVec 32 := Scalar.muli v8 c1_i32_1201
  let v1434 : BitVec 32 := Scalar.addi v1432 v1433
  v1434.toNat
def k0_cond59 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1230 : BitVec 1 := 1#1
  let v1467 : BitVec 1 := Scalar.xori v10 true_1230
  let v1468 : BitVec 32 := Scalar.extui v1467
  let c0_i32_1231 : BitVec 32 := 0#32
  let v1469 : BitVec 1 := Scalar.cmpi .ne v1468 c0_i32_1231
  v1469

def k0_dev127 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond60 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1254 : BitVec 1 := 1#1
  let v1491 : BitVec 1 := Scalar.xori v9 true_1254
  let v1492 : BitVec 32 := Scalar.extui v1491
  let c0_i32_1255 : BitVec 32 := 0#32
  let v1493 : BitVec 1 := Scalar.cmpi .ne v1492 c0_i32_1255
  v1493

def k0_dev128 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev129 (d0 : Dev nD) : Nat :=
  let c0_i32_1279 : BitVec 32 := 0#32
  let c1_i32_1273 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1529 : BitVec 32 := Scalar.subi c1_i32_1273 v2
  let c16_i32_1278 : BitVec 32 := 16#32
  let v1530 : BitVec 32 := Scalar.muli v1529 c16_i32_1278
  let v1531 : BitVec 32 := Scalar.addi c0_i32_1279 v1530
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1280 : BitVec 32 := 4#32
  let v1532 : BitVec 32 := Scalar.muli v5 c4_i32_1280
  let v1533 : BitVec 32 := Scalar.addi v1531 v1532
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1281 : BitVec 32 := 1#32
  let v1534 : BitVec 32 := Scalar.muli v8 c1_i32_1281
  let v1535 : BitVec 32 := Scalar.addi v1533 v1534
  v1535.toNat
def k0_cond61 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1310 : BitVec 1 := 1#1
  let v1568 : BitVec 1 := Scalar.xori v10 true_1310
  let v1569 : BitVec 32 := Scalar.extui v1568
  let c0_i32_1311 : BitVec 32 := 0#32
  let v1570 : BitVec 1 := Scalar.cmpi .ne v1569 c0_i32_1311
  v1570

def k0_dev130 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond62 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1334 : BitVec 1 := 1#1
  let v1592 : BitVec 1 := Scalar.xori v9 true_1334
  let v1593 : BitVec 32 := Scalar.extui v1592
  let c0_i32_1335 : BitVec 32 := 0#32
  let v1594 : BitVec 1 := Scalar.cmpi .ne v1593 c0_i32_1335
  v1594

def k0_dev131 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev132 (d0 : Dev nD) : Nat :=
  let c0_i32_1359 : BitVec 32 := 0#32
  let c1_i32_1353 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1630 : BitVec 32 := Scalar.subi c1_i32_1353 v2
  let c16_i32_1358 : BitVec 32 := 16#32
  let v1631 : BitVec 32 := Scalar.muli v1630 c16_i32_1358
  let v1632 : BitVec 32 := Scalar.addi c0_i32_1359 v1631
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1360 : BitVec 32 := 4#32
  let v1633 : BitVec 32 := Scalar.muli v5 c4_i32_1360
  let v1634 : BitVec 32 := Scalar.addi v1632 v1633
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1361 : BitVec 32 := 1#32
  let v1635 : BitVec 32 := Scalar.muli v8 c1_i32_1361
  let v1636 : BitVec 32 := Scalar.addi v1634 v1635
  v1636.toNat
def k0_cond63 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1390 : BitVec 1 := 1#1
  let v1669 : BitVec 1 := Scalar.xori v10 true_1390
  let v1670 : BitVec 32 := Scalar.extui v1669
  let c0_i32_1391 : BitVec 32 := 0#32
  let v1671 : BitVec 1 := Scalar.cmpi .ne v1670 c0_i32_1391
  v1671

def k0_dev133 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond64 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1414 : BitVec 1 := 1#1
  let v1693 : BitVec 1 := Scalar.xori v9 true_1414
  let v1694 : BitVec 32 := Scalar.extui v1693
  let c0_i32_1415 : BitVec 32 := 0#32
  let v1695 : BitVec 1 := Scalar.cmpi .ne v1694 c0_i32_1415
  v1695

def k0_dev134 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev135 (d0 : Dev nD) : Nat :=
  let c0_i32_1439 : BitVec 32 := 0#32
  let c1_i32_1433 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1731 : BitVec 32 := Scalar.subi c1_i32_1433 v2
  let c16_i32_1438 : BitVec 32 := 16#32
  let v1732 : BitVec 32 := Scalar.muli v1731 c16_i32_1438
  let v1733 : BitVec 32 := Scalar.addi c0_i32_1439 v1732
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1440 : BitVec 32 := 4#32
  let v1734 : BitVec 32 := Scalar.muli v5 c4_i32_1440
  let v1735 : BitVec 32 := Scalar.addi v1733 v1734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1441 : BitVec 32 := 1#32
  let v1736 : BitVec 32 := Scalar.muli v8 c1_i32_1441
  let v1737 : BitVec 32 := Scalar.addi v1735 v1736
  v1737.toNat
def k0_cond65 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1470 : BitVec 1 := 1#1
  let v1770 : BitVec 1 := Scalar.xori v10 true_1470
  let v1771 : BitVec 32 := Scalar.extui v1770
  let c0_i32_1471 : BitVec 32 := 0#32
  let v1772 : BitVec 1 := Scalar.cmpi .ne v1771 c0_i32_1471
  v1772

def k0_dev136 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond66 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1494 : BitVec 1 := 1#1
  let v1794 : BitVec 1 := Scalar.xori v9 true_1494
  let v1795 : BitVec 32 := Scalar.extui v1794
  let c0_i32_1495 : BitVec 32 := 0#32
  let v1796 : BitVec 1 := Scalar.cmpi .ne v1795 c0_i32_1495
  v1796

def k0_dev137 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev138 (d0 : Dev nD) : Nat :=
  let c0_i32_1519 : BitVec 32 := 0#32
  let c1_i32_1513 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1832 : BitVec 32 := Scalar.subi c1_i32_1513 v2
  let c16_i32_1518 : BitVec 32 := 16#32
  let v1833 : BitVec 32 := Scalar.muli v1832 c16_i32_1518
  let v1834 : BitVec 32 := Scalar.addi c0_i32_1519 v1833
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1520 : BitVec 32 := 4#32
  let v1835 : BitVec 32 := Scalar.muli v5 c4_i32_1520
  let v1836 : BitVec 32 := Scalar.addi v1834 v1835
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1521 : BitVec 32 := 1#32
  let v1837 : BitVec 32 := Scalar.muli v8 c1_i32_1521
  let v1838 : BitVec 32 := Scalar.addi v1836 v1837
  v1838.toNat
def k0_cond67 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1550 : BitVec 1 := 1#1
  let v1871 : BitVec 1 := Scalar.xori v10 true_1550
  let v1872 : BitVec 32 := Scalar.extui v1871
  let c0_i32_1551 : BitVec 32 := 0#32
  let v1873 : BitVec 1 := Scalar.cmpi .ne v1872 c0_i32_1551
  v1873

def k0_dev139 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond68 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1574 : BitVec 1 := 1#1
  let v1895 : BitVec 1 := Scalar.xori v9 true_1574
  let v1896 : BitVec 32 := Scalar.extui v1895
  let c0_i32_1575 : BitVec 32 := 0#32
  let v1897 : BitVec 1 := Scalar.cmpi .ne v1896 c0_i32_1575
  v1897

def k0_dev140 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev141 (d0 : Dev nD) : Nat :=
  let c0_i32_1599 : BitVec 32 := 0#32
  let c1_i32_1593 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1933 : BitVec 32 := Scalar.subi c1_i32_1593 v2
  let c16_i32_1598 : BitVec 32 := 16#32
  let v1934 : BitVec 32 := Scalar.muli v1933 c16_i32_1598
  let v1935 : BitVec 32 := Scalar.addi c0_i32_1599 v1934
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1600 : BitVec 32 := 4#32
  let v1936 : BitVec 32 := Scalar.muli v5 c4_i32_1600
  let v1937 : BitVec 32 := Scalar.addi v1935 v1936
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1601 : BitVec 32 := 1#32
  let v1938 : BitVec 32 := Scalar.muli v8 c1_i32_1601
  let v1939 : BitVec 32 := Scalar.addi v1937 v1938
  v1939.toNat
def k0_cond69 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1630 : BitVec 1 := 1#1
  let v1972 : BitVec 1 := Scalar.xori v9 true_1630
  let v1973 : BitVec 32 := Scalar.extui v1972
  let c0_i32_1631 : BitVec 32 := 0#32
  let v1974 : BitVec 1 := Scalar.cmpi .ne v1973 c0_i32_1631
  v1974

def k0_dev142 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev143 (d0 : Dev nD) : Nat :=
  let c0_i32_1655 : BitVec 32 := 0#32
  let c1_i32_1649 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2010 : BitVec 32 := Scalar.subi c1_i32_1649 v2
  let c16_i32_1654 : BitVec 32 := 16#32
  let v2011 : BitVec 32 := Scalar.muli v2010 c16_i32_1654
  let v2012 : BitVec 32 := Scalar.addi c0_i32_1655 v2011
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1656 : BitVec 32 := 4#32
  let v2013 : BitVec 32 := Scalar.muli v5 c4_i32_1656
  let v2014 : BitVec 32 := Scalar.addi v2012 v2013
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1657 : BitVec 32 := 1#32
  let v2015 : BitVec 32 := Scalar.muli v8 c1_i32_1657
  let v2016 : BitVec 32 := Scalar.addi v2014 v2015
  v2016.toNat
def k0_cond70 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1686 : BitVec 1 := 1#1
  let v2049 : BitVec 1 := Scalar.xori v9 true_1686
  let v2050 : BitVec 32 := Scalar.extui v2049
  let c0_i32_1687 : BitVec 32 := 0#32
  let v2051 : BitVec 1 := Scalar.cmpi .ne v2050 c0_i32_1687
  v2051

def k0_dev144 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev145 (d0 : Dev nD) : Nat :=
  let c0_i32_1711 : BitVec 32 := 0#32
  let c1_i32_1705 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2087 : BitVec 32 := Scalar.subi c1_i32_1705 v2
  let c16_i32_1710 : BitVec 32 := 16#32
  let v2088 : BitVec 32 := Scalar.muli v2087 c16_i32_1710
  let v2089 : BitVec 32 := Scalar.addi c0_i32_1711 v2088
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1712 : BitVec 32 := 4#32
  let v2090 : BitVec 32 := Scalar.muli v5 c4_i32_1712
  let v2091 : BitVec 32 := Scalar.addi v2089 v2090
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1713 : BitVec 32 := 1#32
  let v2092 : BitVec 32 := Scalar.muli v8 c1_i32_1713
  let v2093 : BitVec 32 := Scalar.addi v2091 v2092
  v2093.toNat
def k0_cond71 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1742 : BitVec 1 := 1#1
  let v2126 : BitVec 1 := Scalar.xori v9 true_1742
  let v2127 : BitVec 32 := Scalar.extui v2126
  let c0_i32_1743 : BitVec 32 := 0#32
  let v2128 : BitVec 1 := Scalar.cmpi .ne v2127 c0_i32_1743
  v2128

def k0_dev146 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev147 (d0 : Dev nD) : Nat :=
  let c0_i32_1767 : BitVec 32 := 0#32
  let c1_i32_1761 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2164 : BitVec 32 := Scalar.subi c1_i32_1761 v2
  let c16_i32_1766 : BitVec 32 := 16#32
  let v2165 : BitVec 32 := Scalar.muli v2164 c16_i32_1766
  let v2166 : BitVec 32 := Scalar.addi c0_i32_1767 v2165
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2167 : BitVec 32 := Scalar.muli v5 c4_i32_1768
  let v2168 : BitVec 32 := Scalar.addi v2166 v2167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2169 : BitVec 32 := Scalar.muli v8 c1_i32_1769
  let v2170 : BitVec 32 := Scalar.addi v2168 v2169
  v2170.toNat
def k0_cond72 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_25 : BitVec 32 := 2#32
  let v51 : BitVec 1 := Scalar.cmpi .eq v5 c2_i32_25
  let v52 : BitVec 32 := Scalar.extui v51
  let c0_i32_26 : BitVec 32 := 0#32
  let v53 : BitVec 1 := Scalar.cmpi .ne v52 c0_i32_26
  v53

def k0_cond73 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_520 : BitVec 1 := 1#1
  let v587 : BitVec 1 := Scalar.xori v9 true_520
  let v588 : BitVec 32 := Scalar.extui v587
  let c0_i32_521 : BitVec 32 := 0#32
  let v589 : BitVec 1 := Scalar.cmpi .ne v588 c0_i32_521
  v589

def k0_dev148 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond74 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_544 : BitVec 1 := 1#1
  let v611 : BitVec 1 := Scalar.xori v9 true_544
  let v612 : BitVec 32 := Scalar.extui v611
  let c0_i32_545 : BitVec 32 := 0#32
  let v613 : BitVec 1 := Scalar.cmpi .ne v612 c0_i32_545
  v613

def k0_dev149 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond75 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_568 : BitVec 1 := 1#1
  let v635 : BitVec 1 := Scalar.xori v9 true_568
  let v636 : BitVec 32 := Scalar.extui v635
  let c0_i32_569 : BitVec 32 := 0#32
  let v637 : BitVec 1 := Scalar.cmpi .ne v636 c0_i32_569
  v637

def k0_dev150 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond76 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_592 : BitVec 1 := 1#1
  let v659 : BitVec 1 := Scalar.xori v9 true_592
  let v660 : BitVec 32 := Scalar.extui v659
  let c0_i32_593 : BitVec 32 := 0#32
  let v661 : BitVec 1 := Scalar.cmpi .ne v660 c0_i32_593
  v661

def k0_dev151 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond77 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_615 : BitVec 1 := 1#1
  let v683 : BitVec 1 := Scalar.xori v10 true_615
  let v684 : BitVec 32 := Scalar.extui v683
  let c0_i32_616 : BitVec 32 := 0#32
  let v685 : BitVec 1 := Scalar.cmpi .ne v684 c0_i32_616
  v685

def k0_dev152 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_off5 (d0 : Dev nD) (c0_i32_626 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v11 : BitVec 32 := Scalar.muli v2 c512_i32
  let v697 : BitVec 32 := Scalar.addi v11 c0_i32_626
  let v698 : Index := Scalar.indexCast v697
  let c0_627 : Index := 0#32
  ![v698.toNat, 0]
def k0_dev153 (d0 : Dev nD) : Nat :=
  let c0_i32_639 : BitVec 32 := 0#32
  let c1_i32_633 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v721 : BitVec 32 := Scalar.subi c1_i32_633 v2
  let c16_i32_638 : BitVec 32 := 16#32
  let v722 : BitVec 32 := Scalar.muli v721 c16_i32_638
  let v723 : BitVec 32 := Scalar.addi c0_i32_639 v722
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_640 : BitVec 32 := 4#32
  let v724 : BitVec 32 := Scalar.muli v5 c4_i32_640
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_641 : BitVec 32 := 1#32
  let v726 : BitVec 32 := Scalar.muli v8 c1_i32_641
  let v727 : BitVec 32 := Scalar.addi v725 v726
  v727.toNat
def k0_cond78 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_670 : BitVec 1 := 1#1
  let v760 : BitVec 1 := Scalar.xori v9 true_670
  let v761 : BitVec 32 := Scalar.extui v760
  let c0_i32_671 : BitVec 32 := 0#32
  let v762 : BitVec 1 := Scalar.cmpi .ne v761 c0_i32_671
  v762

def k0_dev154 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond79 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_694 : BitVec 1 := 1#1
  let v784 : BitVec 1 := Scalar.xori v10 true_694
  let v785 : BitVec 32 := Scalar.extui v784
  let c0_i32_695 : BitVec 32 := 0#32
  let v786 : BitVec 1 := Scalar.cmpi .ne v785 c0_i32_695
  v786

def k0_dev155 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev156 (d0 : Dev nD) : Nat :=
  let c0_i32_719 : BitVec 32 := 0#32
  let c1_i32_713 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v822 : BitVec 32 := Scalar.subi c1_i32_713 v2
  let c16_i32_718 : BitVec 32 := 16#32
  let v823 : BitVec 32 := Scalar.muli v822 c16_i32_718
  let v824 : BitVec 32 := Scalar.addi c0_i32_719 v823
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_720 : BitVec 32 := 4#32
  let v825 : BitVec 32 := Scalar.muli v5 c4_i32_720
  let v826 : BitVec 32 := Scalar.addi v824 v825
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_721 : BitVec 32 := 1#32
  let v827 : BitVec 32 := Scalar.muli v8 c1_i32_721
  let v828 : BitVec 32 := Scalar.addi v826 v827
  v828.toNat
def k0_cond80 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_750 : BitVec 1 := 1#1
  let v861 : BitVec 1 := Scalar.xori v9 true_750
  let v862 : BitVec 32 := Scalar.extui v861
  let c0_i32_751 : BitVec 32 := 0#32
  let v863 : BitVec 1 := Scalar.cmpi .ne v862 c0_i32_751
  v863

def k0_dev157 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond81 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_774 : BitVec 1 := 1#1
  let v885 : BitVec 1 := Scalar.xori v10 true_774
  let v886 : BitVec 32 := Scalar.extui v885
  let c0_i32_775 : BitVec 32 := 0#32
  let v887 : BitVec 1 := Scalar.cmpi .ne v886 c0_i32_775
  v887

def k0_dev158 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev159 (d0 : Dev nD) : Nat :=
  let c0_i32_799 : BitVec 32 := 0#32
  let c1_i32_793 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v923 : BitVec 32 := Scalar.subi c1_i32_793 v2
  let c16_i32_798 : BitVec 32 := 16#32
  let v924 : BitVec 32 := Scalar.muli v923 c16_i32_798
  let v925 : BitVec 32 := Scalar.addi c0_i32_799 v924
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_800 : BitVec 32 := 4#32
  let v926 : BitVec 32 := Scalar.muli v5 c4_i32_800
  let v927 : BitVec 32 := Scalar.addi v925 v926
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_801 : BitVec 32 := 1#32
  let v928 : BitVec 32 := Scalar.muli v8 c1_i32_801
  let v929 : BitVec 32 := Scalar.addi v927 v928
  v929.toNat
def k0_cond82 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_830 : BitVec 1 := 1#1
  let v962 : BitVec 1 := Scalar.xori v9 true_830
  let v963 : BitVec 32 := Scalar.extui v962
  let c0_i32_831 : BitVec 32 := 0#32
  let v964 : BitVec 1 := Scalar.cmpi .ne v963 c0_i32_831
  v964

def k0_dev160 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond83 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_854 : BitVec 1 := 1#1
  let v986 : BitVec 1 := Scalar.xori v10 true_854
  let v987 : BitVec 32 := Scalar.extui v986
  let c0_i32_855 : BitVec 32 := 0#32
  let v988 : BitVec 1 := Scalar.cmpi .ne v987 c0_i32_855
  v988

def k0_dev161 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev162 (d0 : Dev nD) : Nat :=
  let c0_i32_879 : BitVec 32 := 0#32
  let c1_i32_873 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1024 : BitVec 32 := Scalar.subi c1_i32_873 v2
  let c16_i32_878 : BitVec 32 := 16#32
  let v1025 : BitVec 32 := Scalar.muli v1024 c16_i32_878
  let v1026 : BitVec 32 := Scalar.addi c0_i32_879 v1025
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_880 : BitVec 32 := 4#32
  let v1027 : BitVec 32 := Scalar.muli v5 c4_i32_880
  let v1028 : BitVec 32 := Scalar.addi v1026 v1027
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_881 : BitVec 32 := 1#32
  let v1029 : BitVec 32 := Scalar.muli v8 c1_i32_881
  let v1030 : BitVec 32 := Scalar.addi v1028 v1029
  v1030.toNat
def k0_cond84 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_910 : BitVec 1 := 1#1
  let v1063 : BitVec 1 := Scalar.xori v9 true_910
  let v1064 : BitVec 32 := Scalar.extui v1063
  let c0_i32_911 : BitVec 32 := 0#32
  let v1065 : BitVec 1 := Scalar.cmpi .ne v1064 c0_i32_911
  v1065

def k0_dev163 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond85 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_934 : BitVec 1 := 1#1
  let v1087 : BitVec 1 := Scalar.xori v10 true_934
  let v1088 : BitVec 32 := Scalar.extui v1087
  let c0_i32_935 : BitVec 32 := 0#32
  let v1089 : BitVec 1 := Scalar.cmpi .ne v1088 c0_i32_935
  v1089

def k0_dev164 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev165 (d0 : Dev nD) : Nat :=
  let c0_i32_959 : BitVec 32 := 0#32
  let c1_i32_953 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1125 : BitVec 32 := Scalar.subi c1_i32_953 v2
  let c16_i32_958 : BitVec 32 := 16#32
  let v1126 : BitVec 32 := Scalar.muli v1125 c16_i32_958
  let v1127 : BitVec 32 := Scalar.addi c0_i32_959 v1126
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_960 : BitVec 32 := 4#32
  let v1128 : BitVec 32 := Scalar.muli v5 c4_i32_960
  let v1129 : BitVec 32 := Scalar.addi v1127 v1128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1130 : BitVec 32 := Scalar.muli v8 c1_i32_961
  let v1131 : BitVec 32 := Scalar.addi v1129 v1130
  v1131.toNat
def k0_cond86 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_990 : BitVec 1 := 1#1
  let v1164 : BitVec 1 := Scalar.xori v9 true_990
  let v1165 : BitVec 32 := Scalar.extui v1164
  let c0_i32_991 : BitVec 32 := 0#32
  let v1166 : BitVec 1 := Scalar.cmpi .ne v1165 c0_i32_991
  v1166

def k0_dev166 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond87 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1014 : BitVec 1 := 1#1
  let v1188 : BitVec 1 := Scalar.xori v10 true_1014
  let v1189 : BitVec 32 := Scalar.extui v1188
  let c0_i32_1015 : BitVec 32 := 0#32
  let v1190 : BitVec 1 := Scalar.cmpi .ne v1189 c0_i32_1015
  v1190

def k0_dev167 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev168 (d0 : Dev nD) : Nat :=
  let c0_i32_1039 : BitVec 32 := 0#32
  let c1_i32_1033 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1226 : BitVec 32 := Scalar.subi c1_i32_1033 v2
  let c16_i32_1038 : BitVec 32 := 16#32
  let v1227 : BitVec 32 := Scalar.muli v1226 c16_i32_1038
  let v1228 : BitVec 32 := Scalar.addi c0_i32_1039 v1227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1040 : BitVec 32 := 4#32
  let v1229 : BitVec 32 := Scalar.muli v5 c4_i32_1040
  let v1230 : BitVec 32 := Scalar.addi v1228 v1229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1041 : BitVec 32 := 1#32
  let v1231 : BitVec 32 := Scalar.muli v8 c1_i32_1041
  let v1232 : BitVec 32 := Scalar.addi v1230 v1231
  v1232.toNat
def k0_cond88 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1070 : BitVec 1 := 1#1
  let v1265 : BitVec 1 := Scalar.xori v9 true_1070
  let v1266 : BitVec 32 := Scalar.extui v1265
  let c0_i32_1071 : BitVec 32 := 0#32
  let v1267 : BitVec 1 := Scalar.cmpi .ne v1266 c0_i32_1071
  v1267

def k0_dev169 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond89 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1094 : BitVec 1 := 1#1
  let v1289 : BitVec 1 := Scalar.xori v10 true_1094
  let v1290 : BitVec 32 := Scalar.extui v1289
  let c0_i32_1095 : BitVec 32 := 0#32
  let v1291 : BitVec 1 := Scalar.cmpi .ne v1290 c0_i32_1095
  v1291

def k0_dev170 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev171 (d0 : Dev nD) : Nat :=
  let c0_i32_1119 : BitVec 32 := 0#32
  let c1_i32_1113 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1327 : BitVec 32 := Scalar.subi c1_i32_1113 v2
  let c16_i32_1118 : BitVec 32 := 16#32
  let v1328 : BitVec 32 := Scalar.muli v1327 c16_i32_1118
  let v1329 : BitVec 32 := Scalar.addi c0_i32_1119 v1328
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1120 : BitVec 32 := 4#32
  let v1330 : BitVec 32 := Scalar.muli v5 c4_i32_1120
  let v1331 : BitVec 32 := Scalar.addi v1329 v1330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1121 : BitVec 32 := 1#32
  let v1332 : BitVec 32 := Scalar.muli v8 c1_i32_1121
  let v1333 : BitVec 32 := Scalar.addi v1331 v1332
  v1333.toNat
def k0_cond90 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1150 : BitVec 1 := 1#1
  let v1366 : BitVec 1 := Scalar.xori v9 true_1150
  let v1367 : BitVec 32 := Scalar.extui v1366
  let c0_i32_1151 : BitVec 32 := 0#32
  let v1368 : BitVec 1 := Scalar.cmpi .ne v1367 c0_i32_1151
  v1368

def k0_dev172 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond91 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1174 : BitVec 1 := 1#1
  let v1390 : BitVec 1 := Scalar.xori v10 true_1174
  let v1391 : BitVec 32 := Scalar.extui v1390
  let c0_i32_1175 : BitVec 32 := 0#32
  let v1392 : BitVec 1 := Scalar.cmpi .ne v1391 c0_i32_1175
  v1392

def k0_dev173 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev174 (d0 : Dev nD) : Nat :=
  let c0_i32_1199 : BitVec 32 := 0#32
  let c1_i32_1193 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1428 : BitVec 32 := Scalar.subi c1_i32_1193 v2
  let c16_i32_1198 : BitVec 32 := 16#32
  let v1429 : BitVec 32 := Scalar.muli v1428 c16_i32_1198
  let v1430 : BitVec 32 := Scalar.addi c0_i32_1199 v1429
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1200 : BitVec 32 := 4#32
  let v1431 : BitVec 32 := Scalar.muli v5 c4_i32_1200
  let v1432 : BitVec 32 := Scalar.addi v1430 v1431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1201 : BitVec 32 := 1#32
  let v1433 : BitVec 32 := Scalar.muli v8 c1_i32_1201
  let v1434 : BitVec 32 := Scalar.addi v1432 v1433
  v1434.toNat
def k0_cond92 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1230 : BitVec 1 := 1#1
  let v1467 : BitVec 1 := Scalar.xori v9 true_1230
  let v1468 : BitVec 32 := Scalar.extui v1467
  let c0_i32_1231 : BitVec 32 := 0#32
  let v1469 : BitVec 1 := Scalar.cmpi .ne v1468 c0_i32_1231
  v1469

def k0_dev175 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond93 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1254 : BitVec 1 := 1#1
  let v1491 : BitVec 1 := Scalar.xori v10 true_1254
  let v1492 : BitVec 32 := Scalar.extui v1491
  let c0_i32_1255 : BitVec 32 := 0#32
  let v1493 : BitVec 1 := Scalar.cmpi .ne v1492 c0_i32_1255
  v1493

def k0_dev176 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev177 (d0 : Dev nD) : Nat :=
  let c0_i32_1279 : BitVec 32 := 0#32
  let c1_i32_1273 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1529 : BitVec 32 := Scalar.subi c1_i32_1273 v2
  let c16_i32_1278 : BitVec 32 := 16#32
  let v1530 : BitVec 32 := Scalar.muli v1529 c16_i32_1278
  let v1531 : BitVec 32 := Scalar.addi c0_i32_1279 v1530
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1280 : BitVec 32 := 4#32
  let v1532 : BitVec 32 := Scalar.muli v5 c4_i32_1280
  let v1533 : BitVec 32 := Scalar.addi v1531 v1532
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1281 : BitVec 32 := 1#32
  let v1534 : BitVec 32 := Scalar.muli v8 c1_i32_1281
  let v1535 : BitVec 32 := Scalar.addi v1533 v1534
  v1535.toNat
def k0_cond94 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1310 : BitVec 1 := 1#1
  let v1568 : BitVec 1 := Scalar.xori v9 true_1310
  let v1569 : BitVec 32 := Scalar.extui v1568
  let c0_i32_1311 : BitVec 32 := 0#32
  let v1570 : BitVec 1 := Scalar.cmpi .ne v1569 c0_i32_1311
  v1570

def k0_dev178 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond95 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1334 : BitVec 1 := 1#1
  let v1592 : BitVec 1 := Scalar.xori v10 true_1334
  let v1593 : BitVec 32 := Scalar.extui v1592
  let c0_i32_1335 : BitVec 32 := 0#32
  let v1594 : BitVec 1 := Scalar.cmpi .ne v1593 c0_i32_1335
  v1594

def k0_dev179 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev180 (d0 : Dev nD) : Nat :=
  let c0_i32_1359 : BitVec 32 := 0#32
  let c1_i32_1353 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1630 : BitVec 32 := Scalar.subi c1_i32_1353 v2
  let c16_i32_1358 : BitVec 32 := 16#32
  let v1631 : BitVec 32 := Scalar.muli v1630 c16_i32_1358
  let v1632 : BitVec 32 := Scalar.addi c0_i32_1359 v1631
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1360 : BitVec 32 := 4#32
  let v1633 : BitVec 32 := Scalar.muli v5 c4_i32_1360
  let v1634 : BitVec 32 := Scalar.addi v1632 v1633
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1361 : BitVec 32 := 1#32
  let v1635 : BitVec 32 := Scalar.muli v8 c1_i32_1361
  let v1636 : BitVec 32 := Scalar.addi v1634 v1635
  v1636.toNat
def k0_cond96 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1390 : BitVec 1 := 1#1
  let v1669 : BitVec 1 := Scalar.xori v9 true_1390
  let v1670 : BitVec 32 := Scalar.extui v1669
  let c0_i32_1391 : BitVec 32 := 0#32
  let v1671 : BitVec 1 := Scalar.cmpi .ne v1670 c0_i32_1391
  v1671

def k0_dev181 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond97 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1414 : BitVec 1 := 1#1
  let v1693 : BitVec 1 := Scalar.xori v10 true_1414
  let v1694 : BitVec 32 := Scalar.extui v1693
  let c0_i32_1415 : BitVec 32 := 0#32
  let v1695 : BitVec 1 := Scalar.cmpi .ne v1694 c0_i32_1415
  v1695

def k0_dev182 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev183 (d0 : Dev nD) : Nat :=
  let c0_i32_1439 : BitVec 32 := 0#32
  let c1_i32_1433 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1731 : BitVec 32 := Scalar.subi c1_i32_1433 v2
  let c16_i32_1438 : BitVec 32 := 16#32
  let v1732 : BitVec 32 := Scalar.muli v1731 c16_i32_1438
  let v1733 : BitVec 32 := Scalar.addi c0_i32_1439 v1732
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1440 : BitVec 32 := 4#32
  let v1734 : BitVec 32 := Scalar.muli v5 c4_i32_1440
  let v1735 : BitVec 32 := Scalar.addi v1733 v1734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1441 : BitVec 32 := 1#32
  let v1736 : BitVec 32 := Scalar.muli v8 c1_i32_1441
  let v1737 : BitVec 32 := Scalar.addi v1735 v1736
  v1737.toNat
def k0_cond98 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1470 : BitVec 1 := 1#1
  let v1770 : BitVec 1 := Scalar.xori v9 true_1470
  let v1771 : BitVec 32 := Scalar.extui v1770
  let c0_i32_1471 : BitVec 32 := 0#32
  let v1772 : BitVec 1 := Scalar.cmpi .ne v1771 c0_i32_1471
  v1772

def k0_dev184 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond99 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1494 : BitVec 1 := 1#1
  let v1794 : BitVec 1 := Scalar.xori v10 true_1494
  let v1795 : BitVec 32 := Scalar.extui v1794
  let c0_i32_1495 : BitVec 32 := 0#32
  let v1796 : BitVec 1 := Scalar.cmpi .ne v1795 c0_i32_1495
  v1796

def k0_dev185 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev186 (d0 : Dev nD) : Nat :=
  let c0_i32_1519 : BitVec 32 := 0#32
  let c1_i32_1513 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1832 : BitVec 32 := Scalar.subi c1_i32_1513 v2
  let c16_i32_1518 : BitVec 32 := 16#32
  let v1833 : BitVec 32 := Scalar.muli v1832 c16_i32_1518
  let v1834 : BitVec 32 := Scalar.addi c0_i32_1519 v1833
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1520 : BitVec 32 := 4#32
  let v1835 : BitVec 32 := Scalar.muli v5 c4_i32_1520
  let v1836 : BitVec 32 := Scalar.addi v1834 v1835
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1521 : BitVec 32 := 1#32
  let v1837 : BitVec 32 := Scalar.muli v8 c1_i32_1521
  let v1838 : BitVec 32 := Scalar.addi v1836 v1837
  v1838.toNat
def k0_cond100 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v9 : BitVec 1 := Scalar.cmpi .eq v5 c0_i32
  let true_1550 : BitVec 1 := 1#1
  let v1871 : BitVec 1 := Scalar.xori v9 true_1550
  let v1872 : BitVec 32 := Scalar.extui v1871
  let c0_i32_1551 : BitVec 32 := 0#32
  let v1873 : BitVec 1 := Scalar.cmpi .ne v1872 c0_i32_1551
  v1873

def k0_dev187 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_1776 : BitVec 32 := 4294967295#32
  let v2182 : BitVec 32 := Scalar.addi v5 c_m1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_cond101 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1574 : BitVec 1 := 1#1
  let v1895 : BitVec 1 := Scalar.xori v10 true_1574
  let v1896 : BitVec 32 := Scalar.extui v1895
  let c0_i32_1575 : BitVec 32 := 0#32
  let v1897 : BitVec 1 := Scalar.cmpi .ne v1896 c0_i32_1575
  v1897

def k0_dev188 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev189 (d0 : Dev nD) : Nat :=
  let c0_i32_1599 : BitVec 32 := 0#32
  let c1_i32_1593 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1933 : BitVec 32 := Scalar.subi c1_i32_1593 v2
  let c16_i32_1598 : BitVec 32 := 16#32
  let v1934 : BitVec 32 := Scalar.muli v1933 c16_i32_1598
  let v1935 : BitVec 32 := Scalar.addi c0_i32_1599 v1934
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1600 : BitVec 32 := 4#32
  let v1936 : BitVec 32 := Scalar.muli v5 c4_i32_1600
  let v1937 : BitVec 32 := Scalar.addi v1935 v1936
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1601 : BitVec 32 := 1#32
  let v1938 : BitVec 32 := Scalar.muli v8 c1_i32_1601
  let v1939 : BitVec 32 := Scalar.addi v1937 v1938
  v1939.toNat
def k0_cond102 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1630 : BitVec 1 := 1#1
  let v1972 : BitVec 1 := Scalar.xori v10 true_1630
  let v1973 : BitVec 32 := Scalar.extui v1972
  let c0_i32_1631 : BitVec 32 := 0#32
  let v1974 : BitVec 1 := Scalar.cmpi .ne v1973 c0_i32_1631
  v1974

def k0_dev190 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev191 (d0 : Dev nD) : Nat :=
  let c0_i32_1655 : BitVec 32 := 0#32
  let c1_i32_1649 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2010 : BitVec 32 := Scalar.subi c1_i32_1649 v2
  let c16_i32_1654 : BitVec 32 := 16#32
  let v2011 : BitVec 32 := Scalar.muli v2010 c16_i32_1654
  let v2012 : BitVec 32 := Scalar.addi c0_i32_1655 v2011
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1656 : BitVec 32 := 4#32
  let v2013 : BitVec 32 := Scalar.muli v5 c4_i32_1656
  let v2014 : BitVec 32 := Scalar.addi v2012 v2013
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1657 : BitVec 32 := 1#32
  let v2015 : BitVec 32 := Scalar.muli v8 c1_i32_1657
  let v2016 : BitVec 32 := Scalar.addi v2014 v2015
  v2016.toNat
def k0_cond103 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1686 : BitVec 1 := 1#1
  let v2049 : BitVec 1 := Scalar.xori v10 true_1686
  let v2050 : BitVec 32 := Scalar.extui v2049
  let c0_i32_1687 : BitVec 32 := 0#32
  let v2051 : BitVec 1 := Scalar.cmpi .ne v2050 c0_i32_1687
  v2051

def k0_dev192 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev193 (d0 : Dev nD) : Nat :=
  let c0_i32_1711 : BitVec 32 := 0#32
  let c1_i32_1705 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2087 : BitVec 32 := Scalar.subi c1_i32_1705 v2
  let c16_i32_1710 : BitVec 32 := 16#32
  let v2088 : BitVec 32 := Scalar.muli v2087 c16_i32_1710
  let v2089 : BitVec 32 := Scalar.addi c0_i32_1711 v2088
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1712 : BitVec 32 := 4#32
  let v2090 : BitVec 32 := Scalar.muli v5 c4_i32_1712
  let v2091 : BitVec 32 := Scalar.addi v2089 v2090
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1713 : BitVec 32 := 1#32
  let v2092 : BitVec 32 := Scalar.muli v8 c1_i32_1713
  let v2093 : BitVec 32 := Scalar.addi v2091 v2092
  v2093.toNat
def k0_cond104 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v10 : BitVec 1 := Scalar.cmpi .eq v5 c3_i32
  let true_1742 : BitVec 1 := 1#1
  let v2126 : BitVec 1 := Scalar.xori v10 true_1742
  let v2127 : BitVec 32 := Scalar.extui v2126
  let c0_i32_1743 : BitVec 32 := 0#32
  let v2128 : BitVec 1 := Scalar.cmpi .ne v2127 c0_i32_1743
  v2128

def k0_dev194 (d0 : Dev nD) : Nat :=
  let c0_i32_1782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1781 : BitVec 32 := 16#32
  let v2183 : BitVec 32 := Scalar.muli v2 c16_i32_1781
  let v2184 : BitVec 32 := Scalar.addi c0_i32_1782 v2183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1776 : BitVec 32 := 1#32
  let v2182 : BitVec 32 := Scalar.addi v5 c1_i32_1776
  let c4_i32_1783 : BitVec 32 := 4#32
  let v2185 : BitVec 32 := Scalar.muli v2182 c4_i32_1783
  let v2186 : BitVec 32 := Scalar.addi v2184 v2185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2187 : BitVec 32 := Scalar.muli v8 c1_i32_1784
  let v2188 : BitVec 32 := Scalar.addi v2186 v2187
  v2188.toNat
def k0_dev195 (d0 : Dev nD) : Nat :=
  let c0_i32_1767 : BitVec 32 := 0#32
  let c1_i32_1761 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2164 : BitVec 32 := Scalar.subi c1_i32_1761 v2
  let c16_i32_1766 : BitVec 32 := 16#32
  let v2165 : BitVec 32 := Scalar.muli v2164 c16_i32_1766
  let v2166 : BitVec 32 := Scalar.addi c0_i32_1767 v2165
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2167 : BitVec 32 := Scalar.muli v5 c4_i32_1768
  let v2168 : BitVec 32 := Scalar.addi v2166 v2167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2169 : BitVec 32 := Scalar.muli v8 c1_i32_1769
  let v2170 : BitVec 32 := Scalar.addi v2168 v2169
  v2170.toNat
def k0_off6 (d0 : Dev nD) (c0_i32_43 : BitVec 32) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 32 := Scalar.subi c1_i32_2 v2
  let c512_i32_3 : BitVec 32 := 512#32
  let v13 : BitVec 32 := Scalar.muli v12 c512_i32_3
  let v70 : BitVec 32 := Scalar.addi v13 c0_i32_43
  let v71 : Index := Scalar.indexCast v70
  let c0_44 : Index := 0#32
  ![v71.toNat, 0]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1024x1024 : Shape := ⟨3, ![4, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S1024x1024, .bf16⟩
  | .hbm, ⟨2, _⟩ => ⟨S1024, .bf16⟩
  | .hbm, ⟨3, _⟩ => ⟨S4x1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S1024x1024, .f32⟩
  | .hbm, ⟨20, _⟩ => ⟨S1024x1024, .f32⟩
  | .hbm, ⟨21, _⟩ => ⟨S1024, .f32⟩
  | .hbm, ⟨22, _⟩ => ⟨S1x1024, .f32⟩
  | .hbm, ⟨23, _⟩ => ⟨S1024x1024, .f32⟩
  | .hbm, ⟨24, _⟩ => ⟨S1024x1024, .f32⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.KernelIdeal.Steps.lean ====
/-
The kernel's body written with the block index as a variable.

The printed body is one block of statements for each of the sixteen row blocks.  Here a block's statements are
a program over `b : Fin 16`, the three kinds of remote copy (up the y axis, down it, across x) are one program over a
channel, and the body of a device is the sequence of these programs in the kernel's order.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Body

open Cert.KernelIdeal Cert.KernelIdeal.Gen
open Idealize.ShloMosaic
open Idealize.ShloMosaic.TcCoe
open Idealize.SL.Sem

variable {F : FTy → Type} [FloatOps F]

/-- Programs of the kernel's effects. -/
abbrev KProg (F : FTy → Type) [FloatOps F] := Prog (TpuEff nD τ sig (Elt F) Λ₀ .tc) PUnit

/-! ## The mesh -/

/-- A device's coordinate along x. -/
def xOf (c : Dev nD) : ℕ := c.val / 16
/-- A device's coordinate along y. -/
def yOf (c : Dev nD) : ℕ := c.val / 4 % 4
/-- The next device along y (after the last one, the first). -/
def up (c : Dev nD) : Dev nD := if h : yOf c < 3 then ⟨c.val + 4, by have := c.isLt; unfold yOf at h; show _ < 32; change c.val < 32 at this; omega⟩
  else ⟨c.val - 12, by have := c.isLt; omega⟩
/-- The previous device along y (before the first one, the last). -/
def down (c : Dev nD) : Dev nD := if h : 0 < yOf c then ⟨c.val - 4, by have := c.isLt; omega⟩
  else ⟨c.val + 12, by have := c.isLt; unfold yOf at h; show _ < 32; change c.val < 32 at this; omega⟩
/-- The other device of the pair along x. -/
def across (c : Dev nD) : Dev nD := ⟨(c.val + 16) % 32, by show _ < 32; omega⟩

/-! ## The three kinds of remote copy -/

/-- `r`: the sums that go up the y axis.  `l`: the sums that go down it.  `x`: the finished rows to the device
across x. -/
inductive Ch | r | l | x
  deriving DecidableEq
instance : Fintype Ch := ⟨{.r, .l, .x}, fun ch => by cases ch <;> decide⟩

/-- The buffer a channel's copies are read from. -/
def srcM : Ch → Memref sig .tc .vmem S16x32x1024 .bf16
  | .r => Memref.whole cc0_scratch1 | .l => Memref.whole cc0_scratch2 | .x => Memref.whole cc0_scratch3
/-- The buffer a channel's copies land in. -/
def dstM : Ch → Memref sig .tc .vmem S16x32x1024 .bf16
  | .r => Memref.whole cc0_scratch1 | .l => Memref.whole cc0_scratch2 | .x => Memref.whole cc0_scratch4
/-- The device's own half of its partial sums, by row blocks. -/
def oM : Memref sig .tc .vmem S16x32x1024 .bf16 := Memref.whole cc0_scratch0

/-- The buffers are whole ones. -/
theorem src_whole (ch : Ch) : (srcM ch).IsWhole := by cases ch <;> exact Memref.isWhole_whole _
theorem dst_whole (ch : Ch) : (dstM ch).IsWhole := by cases ch <;> exact Memref.isWhole_whole _
theorem o_whole : oM.IsWhole := Memref.isWhole_whole _

/-- The semaphores that count a channel's sent blocks. -/
def sndA : Ch → DmaSems sig S16 | .r => cc0_scratch5 | .l => cc0_scratch7 | .x => cc0_scratch9
/-- The semaphores that count a channel's received blocks. -/
def rcvA : Ch → DmaSems sig S16 | .r => cc0_scratch6 | .l => cc0_scratch8 | .x => cc0_scratch10

/-- Where a channel's copies go. -/
def dest : Ch → Dev nD → Dev nD | .r => up | .l => down | .x => across
/-- Where a channel's copies come from. -/
def from' : Ch → Dev nD → Dev nD | .r => down | .l => up | .x => across

/-! ## A block of the buffers -/

/-- A block lies in its buffer, -/
theorem blk_inb (b : Fin 16) : ∀ a, (![b.val, 0, 0] : Fin 3 → Nat) a + S1x32x1024.size a ≤ S16x32x1024.size a := by
  revert b; decide
/-- Block `b` of a 16 × 32 × 1024 buffer. -/
abbrev blkR (b : Fin 16) := Rect.unit (s := S16x32x1024) ![b.val, 0, 0] S1x32x1024.size (blk_inb b)
/-- in whole rows -/
theorem blk_packed : ∀ b : Fin 16, (blkR b).PackedRows (EltTy.packing .bf16) := by decide
/-- and whole words. -/
theorem blk_words : ∀ b : Fin 16, (blkR b).WholeWords (EltTy.packing .bf16) := by decide
/-- Block `b` as the 32 × 1024 buffer a copy reads or writes. -/
abbrev blkM (M : Memref sig .tc .vmem S16x32x1024 .bf16) (b : Fin 16) : Memref sig .tc .vmem S32x1024 .bf16 :=
  (M.slice (blkR b) (fun _ => rfl)).squeeze S32x1024 squeezes_S1x32x1024_S32x1024

/-- A semaphore lies in its array. -/
theorem sem_inb (b : Fin 16) : ∀ a, (![b.val] : Fin 1 → Nat) a + S1.size a ≤ S16.size a := by revert b; decide
/-- Semaphore `b` of an array of sixteen. -/
abbrev semAt (A : DmaSems sig S16) (b : Fin 16) : DmaSem sig :=
  ((A.slice (Rect.unit (s := S16) ![b.val] S1.size (sem_inb b))).squeeze S_ squeezes_S1_S_).sem

/-- Rows `o, …, o + 31` of a 1024 × 1024 array, at the offsets the kernel reads and writes rows at. -/
theorem rows_inb {o : ℕ} (h : o + 32 ≤ 1024) : ∀ a, (![o, 0] : Fin 2 → Nat) a + S32x1024.size a ≤ S1024x1024.size a := by
  intro a; fin_cases a
  · exact h
  · show 0 + 1024 ≤ 1024; omega
/-- The rows of a device's half, and of the other half, lie in the array. -/
theorem own_le (c : Dev nD) (b : Fin 16) : (512 * xOf c + 32 * b.val) + 32 ≤ 1024 := by
  have := c.isLt; unfold xOf; change c.val < 32 at this; omega
theorem mate_le (c : Dev nD) (b : Fin 16) : (512 * (1 - xOf c) + 32 * b.val) + 32 ≤ 1024 := by omega

/-! ## One statement each -/

/-- Read block `b` of `M`. -/
def loadB (M : Memref sig .tc .vmem S16x32x1024 .bf16) (b : Fin 16) (k : Vec F S1x32x1024 .bf16 → KProg F) : KProg F :=
  .op (.load M (blkR b).toLoadRect (View.loadsAt_vmem h_S1x32x1024)) k
/-- Write block `b` of `M`. -/
def storeB (M : Memref sig .tc .vmem S16x32x1024 .bf16) (hM : M.IsWhole) (b : Fin 16) (v : FVec F S1x32x1024 .bf16) (k : KProg F) : KProg F :=
  .op (.store M (blkR b) v Finset.univ (View.stores_vmem h_S1x32x1024 (hM.storeExact_slice rfl _ (blk_packed b)) (fun _ => rfl)) (.inl rfl)) fun _ => k
/-- A block is read and written exactly. -/
theorem blk_exact {M : Memref sig .tc .vmem S16x32x1024 .bf16} (hM : M.IsWhole) (b : Fin 16) : (blkM M b).view.WordExact :=
  (hM.wordExact_slice rfl _ (blk_words b)).reshape _ _
/-- Start the copy of block `b` on channel `ch` to the device `d`. -/
def sendB (ch : Ch) (d : Dev nD) (b : Fin 16) (k : KProg F) : KProg F :=
  .op (.enqueueDma (blkM (srcM ch) b) (.remote (Dev.tc d) (blkM (dstM ch) b) (.dma (semAt (sndA ch) b))) (.dma (semAt (rcvA ch) b))
    (blk_exact (src_whole ch) b) (blk_exact (dst_whole ch) b) (by cases ch <;> exact ⟨⟨rfl, Or.inl rfl⟩, trivial⟩)) fun _ => k
/-- Wait until block `b` of channel `ch` has been received. -/
def recvB (ch : Ch) (b : Fin 16) (k : KProg F) : KProg F :=
  .op (.waitDma2 (semAt (rcvA ch) b) (blkM (srcM ch) b) (blkM (dstM ch) b) (blk_exact (src_whole ch) b) (blk_exact (dst_whole ch) b)) fun _ => k
/-- Wait until block `b` of channel `ch` has been sent. -/
def sentB (ch : Ch) (b : Fin 16) (k : KProg F) : KProg F :=
  .op (.waitDma2 (semAt (sndA ch) b) (blkM (dstM ch) b) (blkM (srcM ch) b) (blk_exact (dst_whole ch) b) (blk_exact (src_whole ch) b)) fun _ => k

/-! ## The values that are computed -/

/-- A block as rows. -/
abbrev rowsOf (v : Vec F S1x32x1024 .bf16) : FVec F S32x1024 .bf16 := shapeCast S32x1024 v shapeCasts_S1x32x1024_S32x1024
/-- Rows as a block. -/
abbrev blockOf (v : FVec F S32x1024 .bf16) : FVec F S1x32x1024 .bf16 := shapeCast S1x32x1024 v shapeCasts_S32x1024_S1x32x1024

/-- A running sum with the device's own block added. -/
def addP (a o : Vec F S1x32x1024 .bf16) : FVec F S1x32x1024 .bf16 := blockOf (addf (rowsOf a) (rowsOf o))
/-- The device's own block, where the running sum starts. -/
def copyP (o : Vec F S1x32x1024 .bf16) : FVec F S1x32x1024 .bf16 := blockOf (rowsOf o)
/-- The two running sums joined, with the residual rows added, as f32. -/
def totP (r l o : Vec F S1x32x1024 .bf16) (s : Vec F S32x1024 .bf16) : FVec F S32x1024 .f32 :=
  addf (subf (addf (extf .f32 (rowsOf r) bitsLt_bf16_f32) (extf .f32 (rowsOf l) bitsLt_bf16_f32)) (extf .f32 (rowsOf o) bitsLt_bf16_f32))
    (extf .f32 (shapeCast S32x1024 s shapeCasts_S32x1024_S32x1024) bitsLt_bf16_f32)
/-- Rows divided by their root mean square and scaled by gamma. -/
def normP (g : FVec F S1024 .bf16) (y : FVec F S32x1024 .f32) : FVec F S32x1024 .f32 :=
  mulf (mulf y (broadcastTo S32x1024 (rsqrt (addf (divf (shapeCast S32x1 (multiReduction .add [1] S32 (mulf y y) 0x00000000#32 reduces_S32x1024_S32 (.inl rfl) rfl) shapeCasts_S32_S32x1)
      (broadcast S32x1 (Scalar.ofBits .f32 0x44800000#32))) (broadcast S32x1 (Scalar.ofBits .f32 0x358637BD#32)))) broadcasts_S32x1_S32x1024))
    (broadcastTo S32x1024 (extf .f32 (shapeCast S1x1024 g shapeCasts_S1024_S1x1024) bitsLt_bf16_f32) broadcasts_S1x1024_S32x1024)
/-- The finished rows rounded, as the block that is sent across. -/
def roundP (n : FVec F S32x1024 .f32) : FVec F S1x32x1024 .bf16 := blockOf (truncf .bf16 n bitsLt_bf16_f32)
/-- A received block of finished rows, as f32. -/
def wideP (v : Vec F S1x32x1024 .bf16) : FVec F S32x1024 .f32 := extf .f32 (rowsOf v) bitsLt_bf16_f32

/-! ## The steps of a block -/

/-- Read rows of the residual. -/
def loadS (o : ℕ) (h : o + 32 ≤ 1024) (k : Vec F S32x1024 .bf16 → KProg F) : KProg F :=
  .op (.load (Memref.whole cc0_stg1_0 : Memref sig .tc .vmem S1024x1024 .bf16) (Rect.unit (s := S1024x1024) ![o, 0] S32x1024.size (rows_inb h)).toLoadRect (View.loadsAt_vmem h_S32x1024)) k
/-- Write rows of the result (the kernel reads them first and drops what it read). -/
def storeRows (o : ℕ) (h : o + 32 ≤ 1024) (v : FVec F S32x1024 .f32) (k : KProg F) : KProg F :=
  .op (.load (Memref.whole cc0_stg3_0 : Memref sig .tc .vmem S1024x1024 .f32) (Rect.unit (s := S1024x1024) ![o, 0] S32x1024.size (rows_inb h)).toLoadRect (View.loadsAt_vmem h_S32x1024)) fun _ =>
  .op (.store (Memref.whole cc0_stg3_0 : Memref sig .tc .vmem S1024x1024 .f32) (Rect.unit (s := S1024x1024) ![o, 0] S32x1024.size (rows_inb h)) v Finset.univ (View.stores_vmem_bits_univ h_S32x1024 rfl) (.inl rfl)) fun _ => k

/-- Whether channel `ch` ends at `c`'s row of devices: nothing is sent on from it. -/
def lastOf (ch : Ch) (c : Dev nD) : Bool := match ch with | .r => yOf c == 3 | .l => yOf c == 0 | .x => false
/-- Whether channel `ch` starts at `c`'s row of devices: nothing is received. -/
def firstOf (ch : Ch) (c : Dev nD) : Bool := match ch with | .r => yOf c == 0 | .l => yOf c == 3 | .x => false

/-- Send block `b` on, where there is a device to send it to. -/
def sendOn (ch : Ch) (c : Dev nD) (b : Fin 16) (k : KProg F) : KProg F := if lastOf ch c then k else sendB ch (dest ch c) b k
/-- The running sum of a channel at block `b`: started from the device's own block or received and added to, then sent on. -/
def pass (ch : Ch) (c : Dev nD) (b : Fin 16) (k : KProg F) : KProg F :=
  if firstOf ch c then
    loadB oM b fun v => loadB (srcM ch) b fun _ => storeB (srcM ch) (src_whole ch) b (copyP v) <| sendOn ch c b k
  else
    recvB ch b <| loadB (srcM ch) b fun a => loadB oM b fun v => loadB (srcM ch) b fun _ =>
      storeB (srcM ch) (src_whole ch) b (addP a v) <| sendOn ch c b k
/-- A block finished: the sums joined, normalised, sent across and written to the result. -/
def finish (c : Dev nD) (g : FVec F S1024 .bf16) (b : Fin 16) (k : KProg F) : KProg F :=
  loadB (srcM .r) b fun r => loadB (srcM .l) b fun l => loadB oM b fun o => loadS (512 * xOf c + 32 * b.val) (own_le c b) fun s =>
  loadB (srcM .x) b fun _ => storeB (srcM .x) (src_whole .x) b (roundP (normP g (totP r l o s))) <|
  sendB .x (across c) b <| storeRows (512 * xOf c + 32 * b.val) (own_le c b) (normP g (totP r l o s)) k
/-- A block of the device across taken over. -/
def takeOver (c : Dev nD) (b : Fin 16) (k : KProg F) : KProg F :=
  recvB .x b <| loadB (dstM .x) b fun v => storeRows (512 * (1 - xOf c) + 32 * b.val) (mate_le c b) (wideP v) k
/-- The block's sends waited for. -/
def drain (c : Dev nD) (b : Fin 16) (k : KProg F) : KProg F :=
  sentB .x b <| (fun k => if lastOf .r c then k else sentB .r b k) <| (fun k => if lastOf .l c then k else sentB .l b k) k

/-! ## The body -/

/-- The channel whose blocks a device handles first, and the one it handles second. -/
def lead (c : Dev nD) : Ch := if yOf c < 2 then .r else .l
/-- The direction that follows the leading one. -/
def lag (c : Dev nD) : Ch := if yOf c < 2 then .l else .r

/-- The order of the blocks: `inl b`, block `b` of the first channel; `inr b`, block `b` of the second and its end.
At the ends of the y axis the first channel is done with before the second begins; between them it is three blocks ahead. -/
def order (c : Dev nD) : List (Fin 16 ⊕ Fin 16) :=
  if yOf c = 0 ∨ yOf c = 3 then
    [.inl 0, .inl 1, .inl 2, .inl 3, .inl 4, .inl 5, .inl 6, .inl 7, .inl 8, .inl 9, .inl 10, .inl 11, .inl 12, .inl 13, .inl 14, .inl 15,
     .inr 0, .inr 1, .inr 2, .inr 3, .inr 4, .inr 5, .inr 6, .inr 7, .inr 8, .inr 9, .inr 10, .inr 11, .inr 12, .inr 13, .inr 14, .inr 15]
  else
    [.inl 0, .inl 1, .inl 2, .inl 3, .inr 0, .inl 4, .inr 1, .inl 5, .inr 2, .inl 6, .inr 3, .inl 7, .inr 4, .inl 8, .inr 5, .inl 9, .inr 6,
     .inl 10, .inr 7, .inl 11, .inr 8, .inl 12, .inr 9, .inl 13, .inr 10, .inl 14, .inr 11, .inl 15, .inr 12, .inr 13, .inr 14, .inr 15]
/-- The sixteen blocks in order. -/
def blocks : List (Fin 16) := [0, 1, 2, 3, 4, 5, 6, 7, 8, 9, 10, 11, 12, 13, 14, 15]

/-- One entry of the order. -/
def step (c : Dev nD) (g : FVec F S1024 .bf16) : Fin 16 ⊕ Fin 16 → KProg F → KProg F
  | .inl b, k => pass (lead c) c b k
  | .inr b, k => pass (lag c) c b (finish c g b k)

/-- The barrier semaphore of the mesh. -/
abbrev barS : Sem sig := (SemArray.scalar (sig.barrier 0 rfl) : Sems sig S_).sem
/-- Signal the barrier of `d`. -/
def signalB (d : Dev nD) (k : KProg F) : KProg F := .op (.semSignal (d, .tc) barS 1) fun _ => k

/-- A device's half lies in its partial sums. -/
theorem half_inb (c : Dev nD) : ∀ a, (![0, 512 * xOf c, 0] : Fin 3 → Nat) a + S1x512x1024.size a ≤ S1x1024x1024.size a := by
  have := c.isLt; change c.val < 32 at this
  intro a; fin_cases a
  · show 0 + 1 ≤ 1; omega
  · show 512 * (c.val / 16) + 512 ≤ 1024; omega
  · show 0 + 1024 ≤ 1024; omega

/-- The blocks of the device's own half. -/
def halfP (v : Vec F S1x512x1024 .bf16) : FVec F S16x32x1024 .bf16 :=
  shapeCast S16x32x1024 (shapeCast S16x32x1024 (shapeCast S512x1024 v shapeCasts_S1x512x1024_S512x1024) shapeCasts_S512x1024_S16x32x1024) shapeCasts_S16x32x1024_S16x32x1024
/-- Gamma as it is read. -/
def gammaP (v : Vec F S1024 .bf16) : FVec F S1024 .bf16 := shapeCast S1024 v shapeCasts_S1024_S1024

/-- What a device does once its neighbours have signalled. -/
def work (c : Dev nD) (g : FVec F S1024 .bf16) : KProg F :=
  (order c).foldr (step c g) <| blocks.foldr (takeOver c) <| blocks.foldr (drain c) <| .ret ⟨⟩

/-- How many neighbours a device has. -/
def degree (c : Dev nD) : ℕ := if yOf c = 0 ∨ yOf c = 3 then 2 else 3

/-- The kernel's body on device `c`. -/
def body (c : Dev nD) : KProg F :=
  (fun k => if yOf c = 0 then k else signalB (down c) k) <| (fun k => if yOf c = 3 then k else signalB (up c) k) <| signalB (across c) <|
  .op (.load (Memref.whole cc0_stg0_0 : Memref sig .tc .vmem S1x1024x1024 .bf16) (Rect.unit (s := S1x1024x1024) ![0, 512 * xOf c, 0] S1x512x1024.size (half_inb c)).toLoadRect (View.loadsAt_vmem h_S1x512x1024)) fun p =>
  .op (.load oM (Rect.unit (s := S16x32x1024) ![0, 0, 0] S16x32x1024.size inb_S16x32x1024_S16x32x1024_0_0_0).toLoadRect (View.loadsAt_vmem h_S16x32x1024)) fun _ =>
  .op (.store oM (Rect.unit (s := S16x32x1024) ![0, 0, 0] S16x32x1024.size inb_S16x32x1024_S16x32x1024_0_0_0) (halfP p) Finset.univ
    (View.stores_vmem h_S16x32x1024 (o_whole.storeExact_slice rfl _ packedbf16_S16x32x1024_S16x32x1024_0_0_0) (fun _ => rfl)) (.inl rfl)) fun _ =>
  .op (.load (Memref.whole cc0_stg2_0 : Memref sig .tc .vmem S1024 .bf16) (Rect.unit (s := S1024) ![0] S1024.size inb_S1024_S1024_0).toLoadRect (View.loadsAt_vmem h_S1024)) fun g =>
  .op (.semWait barS (degree c)) fun _ => work c (gammaP g)

/-! ## The printed body is this one -/

/-- What a program goes on with once it has read its device's number. -/
def afterId (p : KProg F) (c : Dev nD) : KProg F := match p with
  | .op .deviceId k => k c
  | _ => .ret ⟨⟩

/-- The printed body reads its device's number and goes on. -/
theorem body_op (t : Fin cfg0.N) : (bodyAt0 t : KProg F) = .op .deviceId (afterId (bodyAt0 t)) := by chain_rfl

/-- On every device what follows is `body`. -/
theorem body_eq (t : Fin cfg0.N) (c : Dev nD) : afterId (bodyAt0 t) c = (body c : KProg F) := by
  change Fin 32 at c
  fin_cases c <;> chain_rfl

end Cert.KernelIdeal.Body

end
-- ==== Proof.KernelIdeal.Protocol.lean ====
/-
The protocol of the kernel's semaphores and what each block of its buffers holds when it changes hands.

Every semaphore of a device is a cell with one round.  The barrier of a device is signalled once by every device it
sends to, and a signal hands over the buffer the copies will land in.  A receive semaphore is paid by the copy that
arrives, which hands over the block with the sender's value in it; a send semaphore is paid by the copy that has been
read, which hands back the part of the source block that was lent to it.
-/
module

public import proofs.«01_k».proof.Proof.KernelIdeal.Steps

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's and the protocol's, whose duties are named by channels. -/
abbrev UU : Type := UR sig nD τ × URounds (GSem nD τ sig) Ch

local notation "𝕄" => MT nD τ sig Unit (Elt F) ℕ UU ℕ

abbrev EP : Emb (UR sig nD τ) (MT nD τ sig Unit (Elt F) ℕ UU ℕ) := embL
abbrev ER : Emb (URounds (GSem nD τ sig) Ch) (MT nD τ sig Unit (Elt F) ℕ UU ℕ) := embR
abbrev 𝒱₀ : Variants := Variants.none

variable (m : (ℓ : Loc nD τ sig) → Buf (Elt F) ℓ) (ρ : Dev nD → PrngReg)

/-- The state a run starts from. -/
def s₀ : MemSt nD τ sig (Elt F) := ⟨m, fun _ => 0, ρ⟩

/-! ## The mesh -/

/-- Each channel pairs the devices: what comes to where a device sends is from that device, -/
theorem from_dest (ch : Ch) (c : Dev nD) : from' ch (dest ch c) = c := by
  have : ∀ (ch : Ch) (c : Fin 32), from' ch (dest ch c) = c := by decide +kernel
  exact this ch c
/-- and what is sent from where a device receives goes to that device. -/
theorem dest_from (ch : Ch) (c : Dev nD) : dest ch (from' ch c) = c := by
  have : ∀ (ch : Ch) (c : Fin 32), dest ch (from' ch c) = c := by decide +kernel
  exact this ch c
/-- A channel starts where its copies would come in from a device it ends at, -/
theorem first_dest (ch : Ch) (c : Dev nD) : firstOf ch (dest ch c) = lastOf ch c := by
  have : ∀ (ch : Ch) (c : Fin 32), firstOf ch (dest ch c) = lastOf ch c := by decide +kernel
  exact this ch c
/-- and the other way round. -/
theorem last_from (ch : Ch) (c : Dev nD) : lastOf ch (from' ch c) = firstOf ch c := by
  rw [← first_dest, dest_from]

/-- A channel's copies permute the devices. -/
def destE (ch : Ch) : Dev nD ≃ Dev nD := ⟨dest ch, from' ch, from_dest ch, dest_from ch⟩

/-! ## The cells -/

/-- A device's semaphores: the barrier, and for every channel and block one that counts it sent (`true`) and one that
counts it received (`false`). -/
abbrev CK := Option (Bool × Ch × Fin 16)
/-- The kernel's own semaphores. -/
def osem (k : Bool × Ch × Fin 16) : SemLoc sig := .dma (semAt (if k.1 then sndA k.2.1 else rcvA k.2.1) k.2.2)
/-- All of them. -/
def csem : CK → SemLoc sig
  | none => .reg barS
  | some k => osem k

/-- Different names are different semaphores. -/
theorem osem_injective : Function.Injective osem := by
  have : ∀ k k' : Bool × Ch × Fin 16, osem k = osem k' → k = k' := by decide +kernel
  exact fun k k' h => this k k' h
theorem csem_injective : Function.Injective csem := by
  rintro (_ | k) (_ | k') h
  · rfl
  · exact nomatch h
  · exact nomatch h
  · exact congrArg some (osem_injective h)

/-- Which semaphore of its device a location is. -/
def decode (s : SemLoc sig) : Option CK := Function.partialInv csem s
/-- A name is found from its semaphore. -/
theorem decode_csem (k : CK) : decode (csem k) = some k := Function.partialInv_left csem_injective k
/-- Other semaphores have no name. -/
theorem decode_none {s : SemLoc sig} (h : ∀ k, csem k ≠ s) : decode s = none :=
  dif_neg fun ⟨k, hk⟩ => h k hk

/-- A named semaphore of a device; the barrier one, the ones of sent and of received blocks. -/
abbrev kcell (ck : Dev nD × CK) : GSem nD τ sig := ((ck.1 : Thread nD τ), csem ck.2)
abbrev bar (c : Dev nD) : GSem nD τ sig := kcell (c, none)
abbrev snd (ch : Ch) (b : Fin 16) (c : Dev nD) : GSem nD τ sig := kcell (c, some (true, ch, b))
abbrev rcv (ch : Ch) (b : Fin 16) (c : Dev nD) : GSem nD τ sig := kcell (c, some (false, ch, b))

/-- Different names on different devices are different semaphores. -/
theorem kcell_injective : Function.Injective kcell := by
  rintro ⟨c, k⟩ ⟨c', k'⟩ h
  have h1 : c = c' := congrArg (fun g : GSem nD τ sig => g.1.1) h
  have h2 : k = k' := csem_injective (congrArg Prod.snd h)
  subst h1; subst h2; rfl

/-- The credit of one block's copy. -/
def N : ℕ := (blkM oM 0).view.dmaCredit
/-- A block counts for something. -/
theorem N_pos : 0 < N := View.dmaCredit_pos _ (by decide)
/-- Reading a block and landing it count the same. -/
theorem credit_src (ch : Ch) (b : Fin 16) : (blkM (srcM ch) b).view.dmaCredit = N := by cases ch <;> rfl
theorem credit_dst (ch : Ch) (b : Fin 16) : (blkM (dstM ch) b).view.dmaCredit = N := by cases ch <;> rfl

/-! ## The values -/

/-- The staged partial sums, residual and gamma. -/
def parW (c : Dev nD) : (cc0_stg0_0 : Ref sig .tc).ty.Contents (Elt F) :=
  (win0_0.blk (0 : Fin 1)).view.read (Elt F) ((s₀ m ρ).mem ((c : Thread nD τ).loc main_arg0))
def resW (c : Dev nD) : (cc0_stg1_0 : Ref sig .tc).ty.Contents (Elt F) :=
  (win0_1.blk (0 : Fin 1)).view.read (Elt F) ((s₀ m ρ).mem ((c : Thread nD τ).loc main_arg1))
def gamW (c : Dev nD) : (cc0_stg2_0 : Ref sig .tc).ty.Contents (Elt F) :=
  (win0_2.blk (0 : Fin 1)).view.read (Elt F) ((s₀ m ρ).mem ((c : Thread nD τ).loc main_arg2))

abbrev parM : Memref sig .tc .vmem S1x1024x1024 .bf16 := Memref.whole cc0_stg0_0
abbrev resM : Memref sig .tc .vmem S1024x1024 .bf16 := Memref.whole cc0_stg1_0
abbrev gamM : Memref sig .tc .vmem S1024 .bf16 := Memref.whole cc0_stg2_0
abbrev outM : Memref sig .tc .vmem S1024x1024 .f32 := Memref.whole cc0_stg3_0

/-- Rows of a 1024 × 1024 array. -/
abbrev rowsR (o : ℕ) (h : o + 32 ≤ 1024) := Rect.unit (s := S1024x1024) ![o, 0] S32x1024.size (rows_inb h)

/-- The device's half of its partial sums, by blocks. -/
def oW (c : Dev nD) : FVec F S16x32x1024 .bf16 :=
  halfP ((parM.access (Rect.unit (s := S1x1024x1024) ![0, 512 * xOf c, 0] S1x512x1024.size (half_inb c))).read (Elt F) (parW m ρ c))
/-- Block `b` of it. -/
def oB (c : Dev nD) (b : Fin 16) : FVec F S1x32x1024 .bf16 := (oM.access (blkR b)).read (Elt F) (show Buf (Elt F) (oM.view.loc (c : Thread nD τ)) from oW m ρ c)
/-- The rows of the residual the device adds to block `b`. -/
def sB (c : Dev nD) (b : Fin 16) : FVec F S32x1024 .bf16 := (resM.access (rowsR _ (own_le c b))).read (Elt F) (resW m ρ c)
/-- Gamma as the body reads it. -/
def gV (c : Dev nD) : FVec F S1024 .bf16 :=
  gammaP ((gamM.access (Rect.unit (s := S1024) ![0] S1024.size inb_S1024_S1024_0)).read (Elt F) (gamW m ρ c))

/-- A running sum over the `n` devices before `c` and `c` itself, the devices before found by `prev`. -/
def run (prev : Dev nD → Dev nD) (b : Fin 16) : ℕ → Dev nD → FVec F S1x32x1024 .bf16
  | 0, c => copyP (oB m ρ c b)
  | n + 1, c => addP (run prev b n (prev c)) (oB m ρ c b)
/-- The two running sums of block `b` at device `c`. -/
def accU (c : Dev nD) (b : Fin 16) : FVec F S1x32x1024 .bf16 := run m ρ down b (yOf c) c
def accD (c : Dev nD) (b : Fin 16) : FVec F S1x32x1024 .bf16 := run m ρ up b (3 - yOf c) c
/-- The finished rows of block `b`. -/
def nB (c : Dev nD) (b : Fin 16) : FVec F S32x1024 .f32 :=
  normP (gV m ρ c) (totP (accU m ρ c b) (accD m ρ c b) (oB m ρ c b) (sB m ρ c b))
/-- What a channel carries away from device `c` at block `b`. -/
def srcV (ch : Ch) (c : Dev nD) (b : Fin 16) : FVec F S1x32x1024 .bf16 :=
  match ch with | .r => accU m ρ c b | .l => accD m ρ c b | .x => roundP (nB m ρ c b)

/-- Where a channel starts, its running sum is the device's own block; -/
theorem srcV_first (ch : Ch) (hx : ch ≠ .x) (c : Dev nD) (b : Fin 16) (h : firstOf ch c = true) : srcV m ρ ch c b = copyP (oB m ρ c b) := by
  cases ch with
  | r => simp only [firstOf, beq_iff_eq] at h; simp only [srcV, accU, h, run]
  | l => simp only [firstOf, beq_iff_eq] at h; simp only [srcV, accD, h, Nat.sub_self, run]
  | x => exact absurd rfl hx
/-- elsewhere it is the received one with that block added. -/
theorem srcV_next (ch : Ch) (hx : ch ≠ .x) (c : Dev nD) (b : Fin 16) (h : firstOf ch c = false) :
    srcV m ρ ch c b = addP (srcV m ρ ch (from' ch c) b) (oB m ρ c b) := by
  cases ch with
  | r =>
    have : ∀ c : Fin 32, firstOf .r c = false → yOf c = yOf (down c) + 1 := by decide +kernel
    simp only [srcV, accU, from', this c h, run]
  | l =>
    have : ∀ c : Fin 32, firstOf .l c = false → 3 - yOf c = (3 - yOf (up c)) + 1 := by decide +kernel
    simp only [srcV, accD, from', this c h, run]
  | x => exact absurd rfl hx

/-! ## Blocks held -/

/-- The elements of block `b` of a buffer. -/
abbrev blkS (M : Memref sig .tc .vmem S16x32x1024 .bf16) (b : Fin 16) := (M.access (blkR b)).set

/-- A share of block `b` of `M` on device `c`, with the value `v` in it. -/
def blk (M : Memref sig .tc .vmem S16x32x1024 .bf16) (c : Dev nD) (b : Fin 16) (q : PosShare TreeShare) (v : FVec F S1x32x1024 .bf16) : sProp 𝕄 :=
  iprop(∃ f : Buf (Elt F) (M.view.loc (c : Thread nD τ)), ⌜(M.access (blkR b)).read (Elt F) f = v⌝ ∗ (M.view.loc (c : Thread nD τ) ↦[blkS M b]{q} f))
/-- Block `b` of `M` on device `c`, with some value in it. -/
def blkAny (M : Memref sig .tc .vmem S16x32x1024 .bf16) (c : Dev nD) (b : Fin 16) : sProp 𝕄 :=
  iprop(∃ f : Buf (Elt F) (M.view.loc (c : Thread nD τ)), M.view.loc (c : Thread nD τ) ↦[blkS M b]{fullShare} f)

instance blk_storable (M : Memref sig .tc .vmem S16x32x1024 .bf16) (c : Dev nD) (b : Fin 16) (q : PosShare TreeShare) (v : FVec F S1x32x1024 .bf16) :
    BI.Storable (upEmb : UEmb _ 𝕄) (blk M c b q v) := by unfold blk; infer_instance
instance blkAny_storable (M : Memref sig .tc .vmem S16x32x1024 .bf16) (c : Dev nD) (b : Fin 16) :
    BI.Storable (upEmb : UEmb _ 𝕄) (blkAny (F := F) M c b) := by unfold blkAny; infer_instance

/-- The share of its source block a copy borrows. -/
def lent : Ch → PosShare TreeShare | .x => fullShare | _ => fullShare.left

/-! ## The schedule -/

/-- The duties of a device's cell: a channel's own at its send and receive cells, and at the barrier one for every
channel the device sends on. -/
def dutiesOf (c : Dev nD) : CK → Finset Ch
  | none => Finset.univ.filter fun ch => lastOf ch c = false
  | some (true, ch, _) => if lastOf ch c then ∅ else {ch}
  | some (false, ch, _) => if firstOf ch c then ∅ else {ch}
/-- What one payment to a semaphore counts. -/
def amountOf : CK → ℕ
  | none => 1
  | some _ => N
/-- What comes with the payment: to the barrier, the buffer the copies may land in; to a semaphore of sent blocks,
the share lent to the copy; to one of received blocks, the block landed, with its contents. -/
def payOf (c : Dev nD) (ch : Ch) : CK → sProp 𝕄
  | none => bigSep Finset.univ fun b => blkAny (dstM ch) (dest ch c) b
  | some (true, ch, b) => blk (srcM ch) c b (lent ch) (srcV m ρ ch c b)
  | some (false, ch, b) => blk (dstM ch) c b fullShare (srcV m ρ ch (from' ch c) b)

instance payOf_storable (c : Dev nD) (ch : Ch) : ∀ k, BI.Storable (upEmb : UEmb _ 𝕄) (payOf m ρ c ch k)
  | none => by unfold payOf; infer_instance
  | some (true, _, _) => by unfold payOf; infer_instance
  | some (false, _, _) => by unfold payOf; infer_instance

/-- The rounds of all the cells. -/
def Rd : Rounds.Schedule (GSem nD τ sig) Ch 𝕄 where
  duties g r := if r = 0 ∧ g.1.2 = .tc then (match decode g.2 with | some k => dutiesOf g.1.1 k | none => ∅) else ∅
  unitless _ := False
  amount g _ _ := match decode g.2 with | some k => amountOf k | none => 1
  payload g _ ch := match decode g.2 with | some k => payOf m ρ g.1.1 ch k | none => iprop(emp)
  amount_pos g _ _ _ := by
    split
    · rename_i k _; cases k
      · exact Nat.one_pos
      · exact N_pos
    · exact Nat.one_pos

instance Rd_storable (g : GSem nD τ sig) (r : ℕ) (ch : Ch) : BI.Storable (upEmb : UEmb _ 𝕄) ((Rd (F := F) m ρ).payload g r ch) := by
  show BI.Storable upEmb (match decode g.2 with | some k => payOf m ρ g.1.1 ch k | none => iprop(emp))
  split <;> infer_instance

/-- The schedule read at a named semaphore. -/
theorem duties_at (c : Dev nD) (k : CK) : (Rd (F := F) m ρ).duties (kcell (c, k)) 0 = dutiesOf c k := by
  dsimp only [Rd]; rw [if_pos ⟨rfl, rfl⟩, decode_csem]
/-- There is one round. -/
theorem duties_later (g : GSem nD τ sig) (r : ℕ) (h : 1 ≤ r) : (Rd (F := F) m ρ).duties g r = ∅ := by
  dsimp only [Rd]; rw [if_neg fun h' => by omega]
theorem amount_at (c : Dev nD) (k : CK) (ch : Ch) : (Rd (F := F) m ρ).amount (kcell (c, k)) 0 ch = amountOf k := by
  dsimp only [Rd]; rw [decode_csem]
theorem payload_at (c : Dev nD) (k : CK) (ch : Ch) : (Rd (F := F) m ρ).payload (kcell (c, k)) 0 ch = payOf m ρ c ch k := by
  dsimp only [Rd]; rw [decode_csem]

/-- A semaphore of sent or received blocks has one payment. -/
theorem duties_snd {ch : Ch} {c : Dev nD} (b : Fin 16) (h : lastOf ch c = false) : (Rd (F := F) m ρ).duties (snd ch b c) 0 = {ch} := by
  rw [duties_at]; simp only [dutiesOf, h]; rfl
theorem duties_rcv {ch : Ch} {c : Dev nD} (b : Fin 16) (h : firstOf ch c = false) : (Rd (F := F) m ρ).duties (rcv ch b c) 0 = {ch} := by
  rw [duties_at]; simp only [dutiesOf, h]; rfl
/-- A neighbour pays the barrier. -/
theorem mem_duties_bar {ch : Ch} {c : Dev nD} (h : lastOf ch c = false) : ch ∈ (Rd (F := F) m ρ).duties (bar c) 0 := by
  rw [duties_at]; exact Finset.mem_filter.mpr ⟨Finset.mem_univ _, h⟩

/-- One payment alone is all that is expected, -/
theorem expect_one {g : GSem nD τ sig} {ch : Ch} (h : (Rd (F := F) m ρ).duties g 0 = {ch}) : (Rd (F := F) m ρ).expect g 0 = (Rd (F := F) m ρ).amount g 0 ch := by
  unfold Schedule.expect Schedule.amountOf; rw [h, Finset.sum_singleton]
theorem amountOf_some (k : Bool × Ch × Fin 16) : amountOf (some k) = N := by unfold amountOf; rfl
/-- So each of those semaphores expects a block. -/
theorem expect_snd {ch : Ch} {c : Dev nD} (b : Fin 16) (h : lastOf ch c = false) : (Rd (F := F) m ρ).expect (snd ch b c) 0 = N := by
  rw [expect_one m ρ (duties_snd m ρ b h), amount_at, amountOf_some]
theorem expect_rcv {ch : Ch} {c : Dev nD} (b : Fin 16) (h : firstOf ch c = false) : (Rd (F := F) m ρ).expect (rcv ch b c) 0 = N := by
  rw [expect_one m ρ (duties_rcv m ρ b h), amount_at, amountOf_some]
/-- and nothing is left of it afterwards. -/
theorem rest_one {g : GSem nD τ sig} {ch : Ch} (h : (Rd (F := F) m ρ).duties g 0 = {ch}) :
    bigSep ((Rd (F := F) m ρ).duties g 0 \ ∅) (fun d => (Rd (F := F) m ρ).payload g 0 d) = (Rd (F := F) m ρ).payload g 0 ch := by
  rw [Finset.sdiff_empty, h, bigSep_singleton]

/-- The barrier expects one from each neighbour. -/
theorem card_bar (c : Dev nD) : (dutiesOf c none).card = degree c := by
  have : ∀ c : Fin 32, (dutiesOf c none).card = degree c := by decide +kernel
  exact this c
theorem expect_bar (c : Dev nD) : (Rd (F := F) m ρ).expect (bar c) 0 = degree c := by
  unfold Schedule.expect Schedule.amountOf
  rw [duties_at, Finset.sum_congr rfl fun d _ => amount_at m ρ c none d]
  simp only [amountOf, Finset.sum_const, smul_eq_mul, mul_one]
  exact card_bar c

/-! ## What is owed -/

/-- What a channel's copy of block `b` from device `c` pays at its destination. -/
def sendT (ch : Ch) (c : Dev nD) (b : Fin 16) : CellTallies nD τ sig Unit :=
  if lastOf ch c then 0 else tallyAt (rcv ch b (dest ch c)) () N
/-- What device `c` pays the barrier of the device a channel comes from. -/
def sigT (ch : Ch) (c : Dev nD) : CellTallies nD τ sig Unit :=
  if firstOf ch c then 0 else tallyAt (bar (from' ch c)) () 1

/-- What is owed with the entries `es` of the order to come. -/
def owed (c : Dev nD) : List (Fin 16 ⊕ Fin 16) → CellTallies nD τ sig Unit
  | [] => 0
  | .inl b :: es => owed c es + sendT (lead c) c b
  | .inr b :: es => owed c es + sendT .x c b + sendT (lag c) c b

/-- What a device owes at launch. -/
def O₀ (c : Dev nD) : CellTallies nD τ sig Unit := owed c (order c) + sigT .x c + sigT .l c + sigT .r c

/-- The cells the entries `es` pay. -/
def pays (c : Dev nD) : List (Fin 16 ⊕ Fin 16) → List (Ch × Fin 16)
  | [] => []
  | .inl b :: es => (if lastOf (lead c) c then [] else [(lead c, b)]) ++ pays c es
  | .inr b :: es => (if lastOf (lag c) c then [] else [(lag c, b)]) ++ (.x, b) :: pays c es

/-- A debt of a copy names where it lands; one of a signal, whose barrier. -/
theorem sendT_pos {ch : Ch} {c : Dev nD} {b : Fin 16} {g : GSem nD τ sig} {u : Unit} (h : 0 < sendT ch c b g u) :
    lastOf ch c = false ∧ g = rcv ch b (dest ch c) := by
  unfold sendT at h
  split at h
  · exact absurd h (Nat.lt_irrefl 0)
  · rename_i hl
    rw [tallyAt_apply] at h
    by_cases hg : g = rcv ch b (dest ch c) ∧ u = ()
    · exact ⟨by simpa using hl, hg.1⟩
    · rw [if_neg hg] at h; exact absurd h (Nat.lt_irrefl 0)
theorem sigT_pos {ch : Ch} {c : Dev nD} {g : GSem nD τ sig} {u : Unit} (h : 0 < sigT ch c g u) : g = bar (from' ch c) := by
  unfold sigT at h
  split at h
  · exact absurd h (Nat.lt_irrefl 0)
  · rw [tallyAt_apply] at h
    by_cases hg : g = bar (from' ch c) ∧ u = ()
    · exact hg.1
    · rw [if_neg hg] at h; exact absurd h (Nat.lt_irrefl 0)

/-- A debt in a sum is a debt in a summand. -/
theorem add_pos_or {A B : CellTallies nD τ sig Unit} {g : GSem nD τ sig} {u : Unit} (h : 0 < (A + B) g u) : 0 < A g u ∨ 0 < B g u := by
  rw [Pi.add_apply, Finsupp.add_apply] at h; omega

/-- Everything owed is a block received at the other end of a channel. -/
theorem owed_pos (c : Dev nD) : ∀ (es : List (Fin 16 ⊕ Fin 16)) {g : GSem nD τ sig} {u : Unit}, 0 < owed c es g u →
    ∃ p ∈ pays c es, g = rcv p.1 p.2 (dest p.1 c)
  | [], _, _, h => absurd h (Nat.lt_irrefl 0)
  | .inl b :: es, g, u, h => by
    rcases add_pos_or h with h | h
    · obtain ⟨p, hp, e⟩ := owed_pos c es h
      exact ⟨p, List.mem_append_right _ hp, e⟩
    · obtain ⟨hl, e⟩ := sendT_pos h
      exact ⟨(lead c, b), List.mem_append_left _ (by rw [hl]; exact List.mem_singleton_self _), e⟩
  | .inr b :: es, g, u, h => by
    rcases add_pos_or h with h | h
    · rcases add_pos_or h with h | h
      · obtain ⟨p, hp, e⟩ := owed_pos c es h
        exact ⟨p, List.mem_append_right _ (List.mem_cons_of_mem _ hp), e⟩
      · exact ⟨(.x, b), List.mem_append_right _ (List.mem_cons_self ..), (sendT_pos h).2⟩
    · obtain ⟨hl, e⟩ := sendT_pos h
      exact ⟨(lag c, b), List.mem_append_left _ (by rw [hl]; exact List.mem_singleton_self _), e⟩

/-! ## The order of waiting -/

/-- The level of a receive cell: later blocks and later devices of a channel are higher. -/
def rcvLv (ch : Ch) (b : Fin 16) (c : Dev nD) : ℕ :=
  2 + b.val + (match ch with | .r => (if yOf c = 1 then 0 else if yOf c = 2 then 1 else 4) | .l => (if yOf c = 2 then 0 else if yOf c = 1 then 1 else 4) | .x => 100)

/-- Every semaphore of a main core has a level. -/
def L (g : GSem nD τ sig) : Finset Unit := if g.1.2 = .tc then {()} else ∅
/-- Barriers below receive cells, everything else at the bottom. -/
def lv (g : GSem nD τ sig) (_ : Unit) : ℕ :=
  match decode g.2 with | some none => 1 | some (some (false, ch, b)) => rcvLv ch b g.1.1 | _ => 0

theorem L_of_ne (g : GSem nD τ sig) (h : g.1.2 ≠ .tc) : L g = ∅ := if_neg h
theorem L_tc (c : Dev nD) (sm : SemLoc sig) : L ((c : Thread nD τ), sm) = {()} := if_pos rfl
/-- The levels of the three kinds of semaphore. -/
theorem lv_bar (c : Dev nD) : lv (bar c) () = 1 := by unfold lv; rw [decode_csem]
theorem lv_rcv (ch : Ch) (b : Fin 16) (c : Dev nD) : lv (rcv ch b c) () = rcvLv ch b c := by unfold lv; rw [decode_csem]
theorem lv_snd (ch : Ch) (b : Fin 16) (c : Dev nD) : lv (snd ch b c) () = 0 := by unfold lv; rw [decode_csem]
/-- Received blocks lie above the barrier. -/
theorem rcvLv_ge (ch : Ch) (b : Fin 16) (c : Dev nD) : 2 ≤ rcvLv ch b c := by unfold rcvLv; omega

/-- The receive of block `b` on channel `ch` comes before all that the entries `es` pay. -/
def Before (c : Dev nD) (ch : Ch) (b : Fin 16) (es : List (Fin 16 ⊕ Fin 16)) : Prop :=
  firstOf ch c = true ∨ ∀ p ∈ pays c es, rcvLv ch b c < rcvLv p.1 p.2 (dest p.1 c)
instance (c : Dev nD) (ch : Ch) (b : Fin 16) (es : List (Fin 16 ⊕ Fin 16)) : Decidable (Before c ch b es) := by unfold Before; infer_instance

/-- An order that can be carried out: every block is handled once by each of the device's channels, the first before the
second, and whatever is still owed at a receive is above it. -/
def Good (c : Dev nD) : List (Fin 16 ⊕ Fin 16) → Prop
  | [] => True
  | .inl b :: es => .inl b ∉ es ∧ .inr b ∈ es ∧ Before c (lead c) b (.inl b :: es) ∧ Good c es
  | .inr b :: es => .inl b ∉ es ∧ .inr b ∉ es ∧ Before c (lag c) b (.inr b :: es) ∧ Good c es
instance decMem (e : Fin 16 ⊕ Fin 16) (es : List (Fin 16 ⊕ Fin 16)) : Decidable (e ∈ es) :=
  @List.instDecidableMemOfLawfulBEq _ instBEqOfDecidableEq inferInstance e es
instance decGood (c : Dev nD) : ∀ es, Decidable (Good c es)
  | [] => .isTrue trivial
  | .inl b :: es => by have := decGood c es; unfold Good; infer_instance
  | .inr b :: es => by have := decGood c es; unfold Good; infer_instance

/-- The order in which each device works is allowed by the levels. -/
theorem good_order (c : Dev nD) : Good c (order c) := by
  have : ∀ c : Fin 32, Good c (order c) := by decide +kernel
  exact this c
/-- It has every block. -/
theorem mem_order (c : Dev nD) (b : Fin 16) : .inl b ∈ order c := by
  have : ∀ (c : Fin 32) (b : Fin 16), .inl b ∈ order c := by decide +kernel
  exact this c b

/-- A device may wait for a block when all that it still owes lies above it. -/
theorem mayWait_rcv {c : Dev nD} {ch : Ch} {b : Fin 16} {es : List (Fin 16 ⊕ Fin 16)} (hf : firstOf ch c = false) (h : Before c ch b es) :
    (levAts L lv : sProp 𝕄) ⊢ MayWait (c : Thread nD τ) (csem (some (false, ch, b))) () (owed c es) :=
  MayOwe.of_cut (L := L) (lev := lv) (rcvLv ch b c) (fun p hp => by rw [Finset.mem_singleton.mp hp, L_tc]; exact Finset.mem_singleton_self _)
    (fun g u hg => by obtain ⟨p, _, rfl⟩ := owed_pos c es hg; exact Finset.mem_singleton_self _)
    (fun p hp => by rw [Finset.mem_singleton.mp hp]; exact (lv_rcv ch b c).le)
    (fun g u hg => by
      obtain ⟨p, hp, rfl⟩ := owed_pos c es hg
      rw [lv_rcv]
      rcases h with h | h
      · rw [hf] at h; exact absurd h (by decide)
      · exact h p hp)

/-- It may wait at the barrier when it owes nothing but copies. -/
theorem mayWait_bar (c : Dev nD) (es : List (Fin 16 ⊕ Fin 16)) : (levAts L lv : sProp 𝕄) ⊢ MayWait (c : Thread nD τ) (csem none) () (owed c es) :=
  MayOwe.of_cut (L := L) (lev := lv) 1 (fun p hp => by rw [Finset.mem_singleton.mp hp, L_tc]; exact Finset.mem_singleton_self _)
    (fun g u hg => by obtain ⟨p, _, rfl⟩ := owed_pos c es hg; exact Finset.mem_singleton_self _)
    (fun p hp => by rw [Finset.mem_singleton.mp hp]; exact (lv_bar c).le)
    (fun g u hg => by
      obtain ⟨p, _, rfl⟩ := owed_pos c es hg
      rw [lv_rcv]
      exact rcvLv_ge _ _ _)

/-- What a device owes at the start is a signal or a copy. -/
theorem O₀_pos {c : Dev nD} {g : GSem nD τ sig} {u : Unit} (h : 0 < O₀ c g u) :
    (∃ ch, g = bar (from' ch c)) ∨ ∃ p : Ch × Fin 16, g = rcv p.1 p.2 (dest p.1 c) := by
  rcases add_pos_or h with h | h
  · rcases add_pos_or h with h | h
    · rcases add_pos_or h with h | h
      · obtain ⟨p, _, e⟩ := owed_pos c _ h; exact .inr ⟨p, e⟩
      · exact .inl ⟨_, sigT_pos h⟩
    · exact .inl ⟨_, sigT_pos h⟩
  · exact .inl ⟨_, sigT_pos h⟩

/-- A wait on a semaphore that is none of the kernel's own may be made whenever. -/
theorem mayWait_stage (c : Dev nD) (q : SemLoc sig) (hq : ∀ k, csem k ≠ q) (O : CellTallies nD τ sig Unit) (hO : O = O₀ c ∨ O = 0) :
    (levAts L lv : sProp 𝕄) ⊢ MayWait (c : Thread nD τ) q () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, rfl⟩ | ⟨_, rfl⟩ <;> exact Finset.mem_singleton_self _)
      (fun p hp => by rw [Finset.mem_singleton.mp hp]; unfold lv; rw [decode_none hq])
      (fun g u hg => by
        rcases O₀_pos hg with ⟨ch, rfl⟩ | ⟨p, rfl⟩
        · rw [lv_bar]; decide
        · rw [lv_rcv]; exact Nat.lt_of_lt_of_le (by decide) (rcvLv_ge _ _ _))
  · rw [MayWait_zero]; iintro -; iempintro

end Cert.KernelIdeal.Body

end
-- ==== Proof.KernelIdeal.Rules.lean ====
/-
One rule for every statement of the body: what it needs of the buffers and the cells, and what it gives back.
-/
module

public import proofs.«01_k».proof.Proof.KernelIdeal.Protocol

@[expose] public section

set_option maxRecDepth 40000

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The program `p` of device `c` runs safely and ends in `Q`. -/
abbrev WP (c : Dev nD) (p : KProg F) (Q : PUnit → sProp 𝕄) : sProp 𝕄 :=
  wp frame (wpE (defs₀ (F := F)) 𝒱₀ (c : Thread nD τ) none) Set.univ p Q

/-! ## What all devices know -/

/-- The levels of the cells. -/
def levs : sProp 𝕄 := levAts L lv
instance levs_persistent : BI.Persistent (levs (F := F)) := by unfold levs; infer_instance

/-- Every cell's invariant, under the names `K`, that every cell has reached its round, and the levels. -/
def ctx (K : Dev nD × CK → ℕ) : sProp 𝕄 :=
  iprop((bigSep Finset.univ fun ck : Dev nD × CK => cellInv ER (Rd m ρ) (K ck) (kcell ck))
    ∗ (bigSep Finset.univ fun ck : Dev nD × CK => reached ER (kcell ck) 0) ∗ levs)

instance ctx_persistent (K : Dev nD × CK → ℕ) : BI.Persistent (ctx m ρ K) := by unfold ctx; infer_instance

/-- What all devices know, at one semaphore: its invariant, that its round is reached, the levels. -/
theorem ctx_inv (K : Dev nD × CK → ℕ) (ck : Dev nD × CK) : ctx m ρ K ⊢ cellInv ER (Rd m ρ) (K ck) (kcell ck) := by
  unfold ctx
  iintro ⟨H, -, -⟩
  iapply (show (bigSep Finset.univ fun ck : Dev nD × CK => (cellInv ER (Rd m ρ) (K ck) (kcell ck) : sProp 𝕄)) ⊢ cellInv ER (Rd m ρ) (K ck) (kcell ck) from
    BI.bigSep_elim (Finset.mem_univ ck))
  iexact H
theorem ctx_reached (K : Dev nD × CK → ℕ) (ck : Dev nD × CK) : ctx m ρ K ⊢ (reached ER (kcell ck) 0 : sProp 𝕄) := by
  unfold ctx
  iintro ⟨-, H, -⟩
  iapply (show (bigSep Finset.univ fun ck : Dev nD × CK => (reached ER (kcell ck) 0 : sProp 𝕄)) ⊢ reached ER (kcell ck) 0 from
    BI.bigSep_elim (Finset.mem_univ ck))
  iexact H
theorem ctx_lev (K : Dev nD × CK → ℕ) : (ctx m ρ K : sProp 𝕄) ⊢ levs (F := F) := by
  unfold ctx
  iintro ⟨-, -, H⟩
  iexact H

/-- What device `c` owes. -/
def ow (c : Dev nD) (O : CellTallies nD τ sig Unit) : sProp 𝕄 := iprop(∃ W, owes (c : Thread nD τ) O W)

/-! ## Loads and stores of blocks -/

/-- Reading a block that is held, whole or in part. -/
theorem wp_loadB (M : Memref sig .tc .vmem S16x32x1024 .bf16) (c : Dev nD) (b : Fin 16) (q : PosShare TreeShare) (v : FVec F S1x32x1024 .bf16)
    (k : Vec F S1x32x1024 .bf16 → KProg F) (Q : PUnit → sProp 𝕄) :
    blk M c b q v ⊢ iprop((blk M c b q v -∗ WP c (k v) Q) -∗ WP c (loadB M b k) Q) := by
  unfold blk
  iintro ⟨%f, %hf, Hf⟩ Hk
  unfold loadB
  iapply (wp_load_rect 𝒱₀ (c : Thread nD τ) none Set.univ (m := M) (r := blkR b) (Finset.Subset.refl _)) $$ Hf
  iintro Hf
  rw [hf]
  iapply Hk
  iexists f
  isplitr; · ipureintro; exact hf
  iexact Hf

/-- Writing a block, after a read of it that is dropped. -/
theorem wp_storeB (M : Memref sig .tc .vmem S16x32x1024 .bf16) (hM : M.IsWhole) (c : Dev nD) (b : Fin 16) (v : FVec F S1x32x1024 .bf16)
    (k : KProg F) (Q : PUnit → sProp 𝕄) :
    blkAny M c b ⊢ iprop((blk M c b fullShare v -∗ WP c k Q) -∗ WP c (loadB M b fun _ => storeB M hM b v k) Q) := by
  unfold blkAny blk
  iintro ⟨%f, Hf⟩ Hk
  unfold loadB storeB
  iapply (wp_load_rect 𝒱₀ (c : Thread nD τ) none Set.univ (m := M) (r := blkR b) (Finset.Subset.refl _)) $$ Hf
  iintro Hf
  iapply (wp_store 𝒱₀ (c : Thread nD τ) none Set.univ (m := M) (r := blkR b) (Mk := Finset.univ) (S := blkS M b) (Finset.Subset.refl _)) $$ Hf
  iintro Hf
  iapply Hk
  iexists (M.access (blkR b)).write (Elt F) f v Finset.univ
  isplitr; · ipureintro; exact View.read_write_univ _ _
  iexact Hf

/-- A block held with its contents is a block held, -/
theorem blk_forget (M : Memref sig .tc .vmem S16x32x1024 .bf16) (c : Dev nD) (b : Fin 16) (v : FVec F S1x32x1024 .bf16) :
    blk M c b fullShare v ⊢ blkAny M c b := by
  unfold blkAny blk
  iintro ⟨%f, -, Hf⟩
  iexists f; iexact Hf

/-- The two halves of a block held. -/
theorem blk_halves (M : Memref sig .tc .vmem S16x32x1024 .bf16) (c : Dev nD) (b : Fin 16) (v : FVec F S1x32x1024 .bf16) :
    blk M c b fullShare v ⊢ iprop(blk M c b fullShare.left v ∗ blk M c b fullShare.right v) := by
  unfold blk
  iintro ⟨%f, %hf, Hf⟩
  ihave H := (pointsTo_share (PosShare.mem_left_op_right fullShare)).1 $$ Hf
  icases H with ⟨H1, H2⟩
  isplitl [H1]
  · iexists f
    isplitr; · ipureintro; exact hf
    iexact H1
  · iexists f
    isplitr; · ipureintro; exact hf
    iexact H2
/-- and so are its two halves. -/
theorem blk_joined (M : Memref sig .tc .vmem S16x32x1024 .bf16) (c : Dev nD) (b : Fin 16) (v w : FVec F S1x32x1024 .bf16) :
    iprop(blk M c b fullShare.left v ∗ blk M c b fullShare.right w) ⊢ blkAny M c b := by
  unfold blk blkAny
  iintro ⟨⟨%f, -, Hf⟩, ⟨%g, -, Hg⟩⟩
  iexists f
  iapply (show iprop((M.view.loc (c : Thread nD τ) ↦[blkS M b]{fullShare.left} f) ∗ (M.view.loc (c : Thread nD τ) ↦[blkS M b]{fullShare.right} g))
      ⊢ (M.view.loc (c : Thread nD τ) ↦[blkS M b]{fullShare} f : sProp 𝕄) from
    pure_elim _ pointsTo_agree fun h => by
      rw [pointsTo_congr (f := g) (g := f) fun i hi => (h i (Finset.mem_inter.mpr ⟨hi, hi⟩)).1.symm]
      exact (pointsTo_share (PosShare.mem_left_op_right fullShare)).2)
  isplitl [Hf] <;> iassumption

/-! ## Copies -/

/-- What has landed in a block is what was read from the other. -/
theorem landed (M M' : Memref sig .tc .vmem S16x32x1024 .bf16) (c d : Dev nD) (b : Fin 16) (fs : Buf (Elt F) (M.view.loc (c : Thread nD τ)))
    (fd : Buf (Elt F) (M'.view.loc (d : Thread nD τ))) :
    (M'.access (blkR b)).read (Elt F) ((blkM M' b).view.write (Elt F) fd ((blkM M b).view.read (Elt F) fs) Finset.univ)
      = (M.access (blkR b)).read (Elt F) fs := by
  have h := View.read_write_univ (Val := Elt F) (v := (blkM M' b).view) fd ((blkM M b).view.read (Elt F) fs)
  funext y
  obtain ⟨x, rfl⟩ := (Shape.reshapeEquiv (s := S1x32x1024) (s' := S32x1024) rfl).surjective y
  exact congrFun h x

/-- A block as a 32 × 1024 buffer covers the same places. -/
theorem blkM_set (M : Memref sig .tc .vmem S16x32x1024 .bf16) (b : Fin 16) : (blkM M b).view.set = blkS M b := View.set_reshape _ _

/-- A copy sent: the source's share is lent, the landing block handed over, one debt paid, and the credit of the send
semaphore received. -/
theorem wp_sendB (K : Dev nD × CK → ℕ) (ch : Ch) (c : Dev nD) (b : Fin 16) (hl : lastOf ch c = false) (O : CellTallies nD τ sig Unit)
    (k : KProg F) (Q : PUnit → sProp 𝕄) :
    iprop(ctx m ρ K ∗ blk (srcM ch) c b (lent ch) (srcV m ρ ch c b) ∗ blkAny (dstM ch) (dest ch c) b
        ∗ dutyTok ER (snd ch b c) 0 ch ∗ dutyTok ER (rcv ch b (dest ch c)) 0 ch ∗ ow c (O + tallyAt (rcv ch b (dest ch c)) () N))
      ⊢ iprop(((cred (tallyAt (snd ch b c) () N) ∗ ow c O) -∗ WP c k Q) -∗ WP c (sendB ch (dest ch c) b k) Q) := by
  unfold blk blkAny ow
  iintro ⟨#Hctx, ⟨%fs, %hfs, Hs⟩, ⟨%fd, Hd⟩, Ht1, Ht2, ⟨%W, HO⟩⟩ Hk
  ihave H := (show iprop(cellInv ER (Rd m ρ) (K (c, some (true, ch, b))) (snd ch b c) ∗ cellInv ER (Rd m ρ) (K (dest ch c, some (false, ch, b))) (rcv ch b (dest ch c))
        ∗ ((srcM ch).view.loc (c : Thread nD τ) ↦[blkS (srcM ch) b]{lent ch} fs) ∗ ((dstM ch).view.loc (dest ch c : Thread nD τ) ↦[blkS (dstM ch) b]{fullShare} fd)
        ∗ owes (c : Thread nD τ) (O + tallyAt (rcv ch b (dest ch c)) () N) W
        ∗ dutyTok ER (snd ch b c) 0 ch ∗ reached ER (snd ch b c) 0 ∗ dutyTok ER (rcv ch b (dest ch c)) 0 ch ∗ reached ER (rcv ch b (dest ch c)) 0)
      ⊢ iprop(((cred (tallyAt (snd ch b c) () N) ∗ owes (c : Thread nD τ) O W) -∗ WP c k Q) -∗ WP c (sendB ch (dest ch c) b k) Q) from by
    rw [← blkM_set (srcM ch), ← blkM_set (dstM ch)]
    exact Rounds.wp_send_pointsTo 𝒱₀ ER (Rd m ρ) (c : Thread nD τ) none (src := blkM (srcM ch) b) (c' := (dest ch c : Thread nD τ)) (dst := blkM (dstM ch) b) (k := fun _ => k)
      (hsrc := blk_exact (src_whole ch) b) (hdst := blk_exact (dst_whole ch) b) (hsem := by cases ch <;> exact ⟨⟨rfl, Or.inl rfl⟩, trivial⟩)
      (sS := csem (some (true, ch, b))) (sem := csem (some (false, ch, b))) (κ₁ := K (c, some (true, ch, b))) (κ₂ := K (dest ch c, some (false, ch, b)))
      (r₁ := 0) (r₂ := 0) (d₁ := ch) (d₂ := ch) (fd := fd)
      (by rw [duties_snd m ρ b hl]; exact Finset.mem_singleton_self _)
      (by rw [duties_rcv m ρ b ((first_dest ch c).trans hl)]; exact Finset.mem_singleton_self _)
      () () N (credit_dst ch b) (amount_at m ρ c (some (true, ch, b)) ch) (amount_at m ρ (dest ch c) (some (false, ch, b)) ch) O rfl (W := W)
      (by
        rw [payload_at, blkM_set]
        show _ ⊢ blk (srcM ch) c b (lent ch) (srcV m ρ ch c b)
        unfold blk
        iintro H
        iexists fs
        isplitr; · ipureintro; exact hfs
        iexact H)
      (by
        rw [payload_at, blkM_set]
        show _ ⊢ blk (dstM ch) (dest ch c) b fullShare (srcV m ρ ch (from' ch (dest ch c)) b)
        rw [from_dest]
        unfold blk
        iintro H
        iexists _
        isplitr; · ipureintro; exact (landed (srcM ch) (dstM ch) c (dest ch c) b fs fd).trans hfs
        iexact H)) $$ [Hs Hd Ht1 Ht2 HO]
  · isplitr; · iapply (ctx_inv m ρ K (c, some (true, ch, b))); iexact Hctx
    isplitr; · iapply (ctx_inv m ρ K (dest ch c, some (false, ch, b))); iexact Hctx
    isplitl [Hs]; · iexact Hs
    isplitl [Hd]; · iexact Hd
    isplitl [HO]; · iexact HO
    isplitl [Ht1]; · iexact Ht1
    isplitr; · iapply (ctx_reached m ρ K (c, some (true, ch, b))); iexact Hctx
    isplitl [Ht2]; · iexact Ht2
    iapply (ctx_reached m ρ K (dest ch c, some (false, ch, b))); iexact Hctx
  iapply H
  iintro ⟨Hc, HO⟩
  iapply Hk
  isplitl [Hc]; · iexact Hc
  iexists W; iexact HO

/-- A cell whose rounds are over for its device. -/
def over (g : GSem nD τ sig) : sProp 𝕄 := iprop(∃ R, ⌜∀ r, R ≤ r → (Rd (F := F) m ρ).duties g r = ∅⌝ ∗ atPos ER g R ∅ 0)

/-- A block received: the wait needs the cell's credit and that all still owed is above it. -/
theorem wp_recvB (K : Dev nD × CK → ℕ) (ch : Ch) (c : Dev nD) (b : Fin 16) (hf : firstOf ch c = false) (O : CellTallies nD τ sig Unit)
    (hO : (levAts L lv : sProp 𝕄) ⊢ MayWait (c : Thread nD τ) (csem (some (false, ch, b))) () O) (k : KProg F) (Q : PUnit → sProp 𝕄) :
    iprop(ctx m ρ K ∗ cred (tallyAt (rcv ch b c) () N) ∗ atPos ER (rcv ch b c) 0 ∅ 0 ∗ ow c O)
      ⊢ iprop(((blk (dstM ch) c b fullShare (srcV m ρ ch (from' ch c) b) ∗ over m ρ (rcv ch b c) ∗ ow c O) -∗ WP c k Q) -∗ WP c (recvB ch b k) Q) := by
  unfold ow
  have hw : ctx m ρ K ⊢ MayWait (c : Thread nD τ) (csem (some (false, ch, b))) () O := (ctx_lev m ρ K).trans (by unfold levs; exact hO)
  iintro ⟨#Hctx, Hc, Ha, ⟨%W, HO⟩⟩ Hk
  ihave H := (show iprop(cellInv ER (Rd m ρ) (K (c, some (false, ch, b))) (rcv ch b c) ∗ cred (tallyAt (rcv ch b c) () N) ∗ owes (c : Thread nD τ) O W
        ∗ MayWait (c : Thread nD τ) (csem (some (false, ch, b))) () O ∗ atPos ER (rcv ch b c) 0 ∅ 0)
      ⊢ iprop(((owes (c : Thread nD τ) O (insert (csem (some (false, ch, b)), ()) W) ∗ atPos ER (rcv ch b c) (0 + 1) ∅ 0 ∗ reached ER (rcv ch b c) (0 + 1)
          ∗ bigSep ((Rd m ρ).duties (rcv ch b c) 0 \ ∅) fun d => (Rd m ρ).payload (rcv ch b c) 0 d) -∗ WP c k Q) -∗ WP c (recvB ch b k) Q) from
    Rounds.wp_wait_rest_token 𝒱₀ ER (Rd m ρ) (c : Thread nD τ) none (sm := csem (some (false, ch, b))) (κ := K (c, some (false, ch, b))) (k := fun _ => k)
      (w := .waitDma2 (semAt (rcvA ch) b) (blkM (srcM ch) b) (blkM (dstM ch) b) (blk_exact (src_whole ch) b) (blk_exact (dst_whole ch) b))
      (fun K => by rw [wpE_waitDma2_eq, credit_dst]; rfl) (Set.mem_univ _) () (O := O) (W := W) (R := 0) (m := 0) (T := ∅)
      ((Nat.zero_add N).trans (expect_rcv m ρ b hf).symm)) $$ [Hc Ha HO]
  · isplitr; · iapply (ctx_inv m ρ K (c, some (false, ch, b))); iexact Hctx
    isplitl [Hc]; · iexact Hc
    isplitl [HO]; · iexact HO
    isplitr; · iapply hw; iexact Hctx
    iexact Ha
  iapply H
  iintro ⟨HO, Ha, -, Hp⟩
  ihave Hp := (Entails.of_eq ((rest_one m ρ (duties_rcv m ρ b hf)).trans (payload_at m ρ c (some (false, ch, b)) ch))) $$ Hp
  iapply Hk
  isplitl [Hp]; · unfold payOf; iexact Hp
  isplitl [Ha]
  · unfold over
    iexists (0 + 1)
    isplitr; · ipureintro; exact fun r hr => duties_later m ρ _ r hr
    iexact Ha
  iexists _; iexact HO

/-- A send waited for: the lent share comes back. -/
theorem wp_sentB (K : Dev nD × CK → ℕ) (ch : Ch) (c : Dev nD) (b : Fin 16) (hl : lastOf ch c = false) (k : KProg F) (Q : PUnit → sProp 𝕄) :
    iprop(ctx m ρ K ∗ cred (tallyAt (snd ch b c) () N) ∗ atPos ER (snd ch b c) 0 ∅ 0 ∗ ow c 0)
      ⊢ iprop(((blk (srcM ch) c b (lent ch) (srcV m ρ ch c b) ∗ over m ρ (snd ch b c) ∗ ow c 0) -∗ WP c k Q) -∗ WP c (sentB ch b k) Q) := by
  unfold ow
  iintro ⟨#Hctx, Hc, Ha, ⟨%W, HO⟩⟩ Hk
  ihave H := (show iprop(cellInv ER (Rd m ρ) (K (c, some (true, ch, b))) (snd ch b c) ∗ cred (tallyAt (snd ch b c) () N) ∗ owes (c : Thread nD τ) 0 W
        ∗ MayWait (c : Thread nD τ) (csem (some (true, ch, b))) () 0 ∗ atPos ER (snd ch b c) 0 ∅ 0)
      ⊢ iprop(((owes (c : Thread nD τ) 0 (insert (csem (some (true, ch, b)), ()) W) ∗ atPos ER (snd ch b c) (0 + 1) ∅ 0 ∗ reached ER (snd ch b c) (0 + 1)
          ∗ bigSep ((Rd m ρ).duties (snd ch b c) 0 \ ∅) fun d => (Rd m ρ).payload (snd ch b c) 0 d) -∗ WP c k Q) -∗ WP c (sentB ch b k) Q) from
    Rounds.wp_wait_rest_token 𝒱₀ ER (Rd m ρ) (c : Thread nD τ) none (sm := csem (some (true, ch, b))) (κ := K (c, some (true, ch, b))) (k := fun _ => k)
      (w := .waitDma2 (semAt (sndA ch) b) (blkM (dstM ch) b) (blkM (srcM ch) b) (blk_exact (dst_whole ch) b) (blk_exact (src_whole ch) b))
      (fun K => by rw [wpE_waitDma2_eq, credit_src]; rfl) (Set.mem_univ _) () (O := 0) (W := W) (R := 0) (m := 0) (T := ∅)
      ((Nat.zero_add N).trans (expect_snd m ρ b hl).symm)) $$ [Hc Ha HO]
  · isplitr; · iapply (ctx_inv m ρ K (c, some (true, ch, b))); iexact Hctx
    isplitl [Hc]; · iexact Hc
    isplitl [HO]; · iexact HO
    isplitr; · rw [MayWait_zero]; iempintro
    iexact Ha
  iapply H
  iintro ⟨HO, Ha, -, Hp⟩
  ihave Hp := (Entails.of_eq ((rest_one m ρ (duties_snd m ρ b hl)).trans (payload_at m ρ c (some (true, ch, b)) ch))) $$ Hp
  iapply Hk
  isplitl [Hp]; · unfold payOf; iexact Hp
  isplitl [Ha]
  · unfold over
    iexists (0 + 1)
    isplitr; · ipureintro; exact fun r hr => duties_later m ρ _ r hr
    iexact Ha
  iexists _; iexact HO

/-- A cell without duties is over from the start. -/
theorem over_none (c : Dev nD) (k : CK) (h : dutiesOf c k = ∅) : (atPos ER (kcell (c, k)) 0 ∅ 0 : sProp 𝕄) ⊢ over m ρ (kcell (c, k)) := by
  unfold over
  iintro H
  iexists 0
  isplitr
  · ipureintro
    intro r _
    rcases Nat.eq_zero_or_pos r with rfl | hr
    · rw [duties_at, h]
    · exact duties_later m ρ _ r hr
  iexact H

/-- A cell that is over is closed: its counter is the device's again, at zero. -/
theorem over_close (K : Dev nD × CK → ℕ) (c : Dev nD) (k : CK) :
    iprop(ctx m ρ K ∗ over m ρ (kcell (c, k))) ⊢ (|={Set.univ}=> semVal (kcell (c, k)) 0 : sProp 𝕄) := by
  unfold over
  iintro ⟨#Hctx, %R, %hR, Ha⟩
  iapply (Rounds.cell_close ER (Rd m ρ) (Set.mem_univ (K (c, k))) (fun h => h) (R := R) hR)
  isplitr; · iapply (ctx_inv m ρ K (c, k)); iexact Hctx
  iexact Ha

end Cert.KernelIdeal.Body

end
-- ==== Proof.KernelIdeal.Blocks.lean ====
/-
The steps of a block, and the three passes over the blocks.
-/
module

public import proofs.«01_k».proof.Proof.KernelIdeal.Rules
public import Idealize.ShloMosaic.Lib.ViewIndex

@[expose] public section

set_option maxRecDepth 40000

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What is held through the body -/

/-- The device's own half. -/
def oHeld (c : Dev nD) : sProp 𝕄 := iprop(oM.view.loc (c : Thread nD τ) ↦{fullShare} (show Buf (Elt F) (oM.view.loc (c : Thread nD τ)) from oW m ρ c))
/-- The staged residual. -/
def sHeld (c : Dev nD) : sProp 𝕄 := iprop(resM.view.loc (c : Thread nD τ) ↦{fullShare} (show Buf (Elt F) (resM.view.loc (c : Thread nD τ)) from resW m ρ c))
/-- The result with the contents `f`. -/
def outHeld (c : Dev nD) (f : Buf (Elt F) (outM.view.loc (c : Thread nD τ))) : sProp 𝕄 := iprop(outM.view.loc (c : Thread nD τ) ↦{fullShare} f)

/-- Reading a block of the device's own partial sums. -/
theorem wp_loadO (c : Dev nD) (b : Fin 16) (k : Vec F S1x32x1024 .bf16 → KProg F) (Q : PUnit → sProp 𝕄) :
    oHeld m ρ c ⊢ iprop((oHeld m ρ c -∗ WP c (k (oB m ρ c b)) Q) -∗ WP c (loadB oM b k) Q) := by
  unfold oHeld loadB
  iintro Hf Hk
  iapply (wp_load_rect 𝒱₀ (c : Thread nD τ) none Set.univ (m := oM) (r := blkR b) (Finset.subset_univ _)) $$ Hf
  iintro Hf
  iapply Hk
  iexact Hf

/-- Reading rows of the residual. -/
theorem wp_loadS (c : Dev nD) (b : Fin 16) (k : Vec F S32x1024 .bf16 → KProg F) (Q : PUnit → sProp 𝕄) :
    sHeld m ρ c ⊢ iprop((sHeld m ρ c -∗ WP c (k (sB m ρ c b)) Q) -∗ WP c (loadS (512 * xOf c + 32 * b.val) (own_le c b) k) Q) := by
  unfold sHeld loadS sB
  iintro Hf Hk
  iapply (wp_load_rect 𝒱₀ (c : Thread nD τ) none Set.univ (m := resM) (r := rowsR _ (own_le c b)) (Finset.subset_univ _)) $$ Hf
  iintro Hf
  iapply Hk
  iexact Hf

/-- The result after rows were written. -/
def putRows (c : Dev nD) (o : ℕ) (h : o + 32 ≤ 1024) (v : FVec F S32x1024 .f32) (f : Buf (Elt F) (outM.view.loc (c : Thread nD τ))) :
    Buf (Elt F) (outM.view.loc (c : Thread nD τ)) := (outM.access (rowsR o h)).write (Elt F) f v Finset.univ
/-- Rows of the result. -/
def getRows (c : Dev nD) (o : ℕ) (h : o + 32 ≤ 1024) (f : Buf (Elt F) (outM.view.loc (c : Thread nD τ))) : FVec F S32x1024 .f32 :=
  (outM.access (rowsR o h)).read (Elt F) f

/-- Rows just written read back; -/
theorem get_put (c : Dev nD) (o : ℕ) (h : o + 32 ≤ 1024) (v : FVec F S32x1024 .f32) (f : Buf (Elt F) (outM.view.loc (c : Thread nD τ))) :
    getRows c o h (putRows c o h v f) = v := View.read_write_univ _ _
/-- other rows are as they were. -/
theorem get_put_other (c : Dev nD) (o o' : ℕ) (h : o + 32 ≤ 1024) (h' : o' + 32 ≤ 1024) (hd : o + 32 ≤ o' ∨ o' + 32 ≤ o) (v : FVec F S32x1024 .f32)
    (f : Buf (Elt F) (outM.view.loc (c : Thread nD τ))) : getRows c o h (putRows c o' h' v f) = getRows c o h f := by
  unfold getRows putRows
  refine View.read_slice_write_slice_of_disjoint (v := outM.view) (Val := Elt F) (rowsR o h) (rowsR o' h') f v Finset.univ (View.disjoint_slice (v := outM.view) ?_)
  rw [Finset.disjoint_left]
  intro i hi hi'
  have h1 := (Rect.mem_set_unit.mp hi) 0
  have h2 := (Rect.mem_set_unit.mp hi') 0
  change o ≤ (i 0).val ∧ (i 0).val < o + 32 at h1
  change o' ≤ (i 0).val ∧ (i 0).val < o' + 32 at h2
  omega

/-- Writing rows of the result. -/
theorem wp_storeRows (c : Dev nD) (o : ℕ) (h : o + 32 ≤ 1024) (v : FVec F S32x1024 .f32) (f : Buf (Elt F) (outM.view.loc (c : Thread nD τ)))
    (k : KProg F) (Q : PUnit → sProp 𝕄) :
    outHeld c f ⊢ iprop((outHeld c (putRows c o h v f) -∗ WP c k Q) -∗ WP c (storeRows o h v k) Q) := by
  unfold outHeld storeRows
  iintro Hf Hk
  iapply (wp_load_rect 𝒱₀ (c : Thread nD τ) none Set.univ (m := outM) (r := rowsR o h) (Finset.subset_univ _)) $$ Hf
  iintro Hf
  iapply (wp_store 𝒱₀ (c : Thread nD τ) none Set.univ (m := outM) (r := rowsR o h) (Mk := Finset.univ) (S := Finset.univ) (Finset.subset_univ _)) $$ Hf
  iintro Hf
  iapply Hk
  iexact Hf

/-! ## One channel at one block -/

/-- What receiving a block needs: its credit (or, where the channel starts, the block to write in), and the cell. -/
def InR (ch : Ch) (c : Dev nD) (b : Fin 16) : sProp 𝕄 :=
  iprop((if firstOf ch c then blkAny (srcM ch) c b else cred (tallyAt (rcv ch b c) () N)) ∗ atPos ER (rcv ch b c) 0 ∅ 0)
/-- What sending a block on needs. -/
def OutR (ch : Ch) (c : Dev nD) (b : Fin 16) : sProp 𝕄 :=
  iprop(if lastOf ch c then emp else (dutyTok ER (snd ch b c) 0 ch ∗ dutyTok ER (rcv ch b (dest ch c)) 0 ch ∗ blkAny (dstM ch) (dest ch c) b))
/-- The share of a block's running sum that the device keeps while the block is sent on. -/
def keptQ (ch : Ch) (c : Dev nD) : PosShare TreeShare := if lastOf ch c then fullShare else fullShare.right
/-- The block kept. -/
def Kept (ch : Ch) (c : Dev nD) (b : Fin 16) : sProp 𝕄 := blk (srcM ch) c b (keptQ ch c) (srcV m ρ ch c b)
/-- The credit of the send. -/
def Sent (ch : Ch) (c : Dev nD) (b : Fin 16) : sProp 𝕄 := iprop(if lastOf ch c then emp else cred (tallyAt (snd ch b c) () N))
/-- A channel's block done with. -/
def Got (ch : Ch) (c : Dev nD) (b : Fin 16) : sProp 𝕄 := iprop(Kept m ρ ch c b ∗ Sent ch c b ∗ over m ρ (rcv ch b c))

/-- The running sums land in the buffer they are sent on from, -/
theorem dst_src {ch : Ch} (hx : ch ≠ .x) : dstM ch = srcM ch := by
  cases ch
  · rfl
  · rfl
  · exact absurd rfl hx
/-- and a copy of theirs is lent half of it. -/
theorem lent_left {ch : Ch} (hx : ch ≠ .x) : lent ch = fullShare.left := by
  cases ch
  · rfl
  · rfl
  · exact absurd rfl hx

/-- Sending a block on, or keeping it where there is no device to send it to. -/
theorem wp_sendOn (K : Dev nD × CK → ℕ) (ch : Ch) (hx : ch ≠ .x) (c : Dev nD) (b : Fin 16) (O : CellTallies nD τ sig Unit)
    (k : KProg F) (Q : PUnit → sProp 𝕄) :
    iprop(ctx m ρ K ∗ blk (srcM ch) c b fullShare (srcV m ρ ch c b) ∗ OutR ch c b ∗ ow c (O + sendT ch c b))
      ⊢ iprop(((Kept m ρ ch c b ∗ Sent ch c b ∗ ow c O) -∗ WP c k Q) -∗ WP c (sendOn ch c b k) Q) := by
  unfold OutR sendT Kept Sent keptQ sendOn
  by_cases hl : lastOf ch c = true
  · rw [hl]
    simp only [if_true, add_zero]
    iintro ⟨-, Hb, -, HO⟩ Hk
    iapply Hk
    isplitl [Hb]; · iexact Hb
    isplitr; · iempintro
    iexact HO
  · have hl : lastOf ch c = false := by simpa using hl
    simp only [hl, Bool.false_eq_true, if_false]
    iintro ⟨#Hctx, Hb, ⟨Ht1, Ht2, Hd⟩, HO⟩ Hk
    ihave Hb := (blk_halves (srcM ch) c b (srcV m ρ ch c b)) $$ Hb
    icases Hb with ⟨Hb, Hb'⟩
    ihave H := (wp_sendB m ρ K ch c b hl O k Q) $$ [Hb Hd Ht1 Ht2 HO]
    · isplitr; · iexact Hctx
      isplitl [Hb]; · rw [lent_left hx]; iexact Hb
      isplitl [Hd]; · iexact Hd
      isplitl [Ht1]; · iexact Ht1
      isplitl [Ht2]; · iexact Ht2
      iexact HO
    iapply H
    iintro ⟨Hc, HO⟩
    iapply Hk
    isplitl [Hb']; · iexact Hb'
    isplitl [Hc]; · iexact Hc
    iexact HO

/-- The running sum of a channel at one block. -/
theorem wp_pass (K : Dev nD × CK → ℕ) (ch : Ch) (hx : ch ≠ .x) (c : Dev nD) (b : Fin 16) (O : CellTallies nD τ sig Unit)
    (hO : firstOf ch c = false → ((levAts L lv : sProp 𝕄) ⊢ MayWait (c : Thread nD τ) (csem (some (false, ch, b))) () (O + sendT ch c b)))
    (k : KProg F) (Q : PUnit → sProp 𝕄) :
    iprop(ctx m ρ K ∗ InR ch c b ∗ OutR ch c b ∗ oHeld m ρ c ∗ ow c (O + sendT ch c b))
      ⊢ iprop(((Got m ρ ch c b ∗ oHeld m ρ c ∗ ow c O) -∗ WP c k Q) -∗ WP c (pass ch c b k) Q) := by
  unfold InR Got pass
  by_cases hf : firstOf ch c = true
  · simp only [hf, if_true]
    iintro ⟨#Hctx, ⟨Hb, Ha⟩, Hout, Ho, HO⟩ Hk
    iapply (wp_loadO m ρ c b) $$ Ho
    iintro Ho
    iapply (wp_storeB (srcM ch) (src_whole ch) c b) $$ Hb
    iintro Hb
    rw [← srcV_first m ρ ch hx c b hf]
    ihave H := (wp_sendOn m ρ K ch hx c b O k Q) $$ [Hb Hout HO]
    · isplitr; · iexact Hctx
      isplitl [Hb]; · iexact Hb
      isplitl [Hout]; · iexact Hout
      iexact HO
    iapply H
    iintro ⟨H1, H2, HO⟩
    iapply Hk
    isplitl [H1 H2 Ha]
    · isplitl [H1]; · iexact H1
      isplitl [H2]; · iexact H2
      iapply (over_none m ρ c (some (false, ch, b)) (by simp only [dutiesOf, hf, if_true])); iexact Ha
    isplitl [Ho]; · iexact Ho
    iexact HO
  · have hf : firstOf ch c = false := by simpa using hf
    simp only [hf, Bool.false_eq_true, if_false]
    iintro ⟨#Hctx, ⟨Hc, Ha⟩, Hout, Ho, HO⟩ Hk
    ihave H := (wp_recvB m ρ K ch c b hf (O + sendT ch c b) (hO hf) _ Q) $$ [Hc Ha HO]
    · isplitr; · iexact Hctx
      isplitl [Hc]; · iexact Hc
      isplitl [Ha]; · iexact Ha
      iexact HO
    iapply H
    iintro ⟨Hb, Ha, HO⟩
    rw [dst_src hx]
    iapply (wp_loadB (srcM ch) c b fullShare) $$ Hb
    iintro Hb
    iapply (wp_loadO m ρ c b) $$ Ho
    iintro Ho
    ihave Hb := (blk_forget (srcM ch) c b _) $$ Hb
    iapply (wp_storeB (srcM ch) (src_whole ch) c b) $$ Hb
    iintro Hb
    rw [← srcV_next m ρ ch hx c b hf]
    ihave H := (wp_sendOn m ρ K ch hx c b O k Q) $$ [Hb Hout HO]
    · isplitr; · iexact Hctx
      isplitl [Hb]; · iexact Hb
      isplitl [Hout]; · iexact Hout
      iexact HO
    iapply H
    iintro ⟨H1, H2, HO⟩
    iapply Hk
    isplitl [H1 H2 Ha]
    · isplitl [H1]; · iexact H1
      isplitl [H2]; · iexact H2
      iexact Ha
    isplitl [Ho]; · iexact Ho
    iexact HO

/-- A block finished. -/
theorem wp_finish (K : Dev nD × CK → ℕ) (c : Dev nD) (b : Fin 16) (O : CellTallies nD τ sig Unit)
    (f : Buf (Elt F) (outM.view.loc (c : Thread nD τ))) (k : KProg F) (Q : PUnit → sProp 𝕄) :
    iprop(ctx m ρ K ∗ Kept m ρ .r c b ∗ Kept m ρ .l c b ∗ oHeld m ρ c ∗ sHeld m ρ c ∗ blkAny (srcM .x) c b ∗ OutR .x c b ∗ outHeld c f
        ∗ ow c (O + sendT .x c b))
      ⊢ iprop(((Kept m ρ .r c b ∗ Kept m ρ .l c b ∗ oHeld m ρ c ∗ sHeld m ρ c ∗ Sent .x c b
          ∗ outHeld c (putRows c _ (own_le c b) (nB m ρ c b) f) ∗ ow c O) -∗ WP c k Q) -∗ WP c (finish c (gV m ρ c) b k) Q) := by
  unfold Kept OutR Sent finish
  simp only [show lastOf .x c = false from rfl, Bool.false_eq_true, if_false]
  iintro ⟨#Hctx, Hr, Hl, Ho, Hs, Hx, ⟨Ht1, Ht2, Hd⟩, Hf, HO⟩ Hk
  iapply (wp_loadB (srcM .r) c b _) $$ Hr
  iintro Hr
  iapply (wp_loadB (srcM .l) c b _) $$ Hl
  iintro Hl
  iapply (wp_loadO m ρ c b) $$ Ho
  iintro Ho
  iapply (wp_loadS m ρ c b) $$ Hs
  iintro Hs
  iapply (wp_storeB (srcM .x) (src_whole .x) c b) $$ Hx
  iintro Hx
  ihave H := (wp_sendB m ρ K .x c b rfl O _ Q) $$ [Hx Hd Ht1 Ht2 HO]
  · isplitr; · iexact Hctx
    isplitl [Hx]; · iexact Hx
    isplitl [Hd]; · iexact Hd
    isplitl [Ht1]; · iexact Ht1
    isplitl [Ht2]; · iexact Ht2
    unfold sendT
    iexact HO
  iapply H
  iintro ⟨Hc, HO⟩
  iapply (wp_storeRows c _ (own_le c b) _ f) $$ Hf
  iintro Hf
  iapply Hk
  isplitl [Hr]; · iexact Hr
  isplitl [Hl]; · iexact Hl
  isplitl [Ho]; · iexact Ho
  isplitl [Hs]; · iexact Hs
  isplitl [Hc]; · iexact Hc
  isplitl [Hf]; · iexact Hf
  iexact HO

/-! ## The passes over the blocks -/

/-- A pass over a list, by an invariant of what is still to come. -/
theorem wp_foldr {α : Type} (c : Dev nD) (s : α → KProg F → KProg F) (I : List α → sProp 𝕄) (Q : PUnit → sProp 𝕄)
    (hs : ∀ a l k, I (a :: l) ⊢ iprop((I l -∗ WP c k Q) -∗ WP c (s a k) Q)) :
    ∀ l k, I l ⊢ iprop((I [] -∗ WP c k Q) -∗ WP c (l.foldr s k) Q)
  | [], k => by
    iintro HI Hk
    iapply Hk
    iexact HI
  | a :: l, k => by
    iintro HI Hk
    rw [List.foldr_cons]
    iapply (hs a l (l.foldr s k)) $$ HI
    iintro HI
    iapply (wp_foldr c s I Q hs l k) $$ HI
    iexact Hk

/-- What a block's second part needs. -/
def Tail (c : Dev nD) (b : Fin 16) : sProp 𝕄 := iprop(InR (lag c) c b ∗ OutR (lag c) c b ∗ blkAny (srcM .x) c b ∗ OutR .x c b)
/-- A block when the entries `es` are to come. -/
def Blk (c : Dev nD) (es : List (Fin 16 ⊕ Fin 16)) (b : Fin 16) : sProp 𝕄 :=
  if .inl b ∈ es then iprop(InR (lead c) c b ∗ OutR (lead c) c b ∗ Tail c b)
  else if .inr b ∈ es then iprop(Got m ρ (lead c) c b ∗ Tail c b)
  else iprop(Got m ρ (lead c) c b ∗ Got m ρ (lag c) c b ∗ Sent .x c b)

/-- The two directions are along y. -/
theorem lead_ne (c : Dev nD) : lead c ≠ .x := by unfold lead; split <;> decide
theorem lag_ne (c : Dev nD) : lag c ≠ .x := by unfold lag; split <;> decide
/-- The two channels along y, in either order. -/
theorem lead_lag (c : Dev nD) (Φ : Ch → sProp 𝕄) : iprop(Φ (lead c) ∗ Φ (lag c)) = iprop(Φ .r ∗ Φ .l) := by
  unfold lead lag
  split
  · rfl
  · exact BI.sep_comm.antisymm BI.sep_comm

/-- The device's own rows are in the result, for the blocks that are finished. -/
def OwnRows (c : Dev nD) (es : List (Fin 16 ⊕ Fin 16)) (f : Buf (Elt F) (outM.view.loc (c : Thread nD τ))) : Prop :=
  ∀ b : Fin 16, .inr b ∉ es → getRows c _ (own_le c b) f = nB m ρ c b

/-- The state with the entries `es` to come. -/
def Going (K : Dev nD × CK → ℕ) (c : Dev nD) (es : List (Fin 16 ⊕ Fin 16)) : sProp 𝕄 :=
  iprop(⌜Good c es⌝ ∗ ctx m ρ K ∗ bigSep Finset.univ (Blk m ρ c es) ∗ oHeld m ρ c ∗ sHeld m ρ c
    ∗ (∃ f, ⌜OwnRows m ρ c es f⌝ ∗ outHeld c f) ∗ ow c (owed c es))

/-- What is held of a block before its first pass, between the two, and after both. -/
theorem Blk_todo {c : Dev nD} {es : List (Fin 16 ⊕ Fin 16)} {b : Fin 16} (h : .inl b ∈ es) :
    Blk m ρ c es b = iprop(InR (lead c) c b ∗ OutR (lead c) c b ∗ Tail c b) := by unfold Blk; rw [if_pos h]
theorem Blk_mid {c : Dev nD} {es : List (Fin 16 ⊕ Fin 16)} {b : Fin 16} (h : .inl b ∉ es) (h' : .inr b ∈ es) :
    Blk m ρ c es b = iprop(Got m ρ (lead c) c b ∗ Tail c b) := by unfold Blk; rw [if_neg h, if_pos h']
theorem Blk_done {c : Dev nD} {es : List (Fin 16 ⊕ Fin 16)} {b : Fin 16} (h : .inl b ∉ es) (h' : .inr b ∉ es) :
    Blk m ρ c es b = iprop(Got m ρ (lead c) c b ∗ Got m ρ (lag c) c b ∗ Sent .x c b) := by unfold Blk; rw [if_neg h, if_neg h']

/-- A step changes nothing of the other blocks. -/
theorem Blk_skip (c : Dev nD) (e : Fin 16 ⊕ Fin 16) (es : List (Fin 16 ⊕ Fin 16)) (b b' : Fin 16) (he : e = .inl b ∨ e = .inr b) (h : b' ≠ b) :
    Blk m ρ c (e :: es) b' = Blk m ρ c es b' := by
  have h1 : (.inl b' ∈ e :: es) ↔ .inl b' ∈ es := by
    rcases he with rfl | rfl <;> simp [h]
  have h2 : (.inr b' ∈ e :: es) ↔ .inr b' ∈ es := by
    rcases he with rfl | rfl <;> simp [h]
  unfold Blk
  simp only [h1, h2]

/-- All blocks are one block and the others. -/
theorem Blks_at (c : Dev nD) (es : List (Fin 16 ⊕ Fin 16)) (b : Fin 16) :
    bigSep Finset.univ (Blk m ρ c es) = iprop(Blk m ρ c es b ∗ bigSep (Finset.univ.erase b) (Blk m ρ c es)) := bigSep_univ_at _ b
/-- So the others stay as they are. -/
theorem Blks_skip (c : Dev nD) (e : Fin 16 ⊕ Fin 16) (es : List (Fin 16 ⊕ Fin 16)) (b : Fin 16) (he : e = .inl b ∨ e = .inr b) :
    bigSep (Finset.univ.erase b) (Blk m ρ c (e :: es)) = bigSep (Finset.univ.erase b) (Blk m ρ c es) :=
  bigSep_congr fun b' hb' => Blk_skip m ρ c e es b b' he (Finset.ne_of_mem_erase hb')

/-- One step of a device, from what it has before to what it has after. -/
theorem wp_step (K : Dev nD × CK → ℕ) (c : Dev nD) (e : Fin 16 ⊕ Fin 16) (es : List (Fin 16 ⊕ Fin 16)) (k : KProg F) (Q : PUnit → sProp 𝕄) :
    Going m ρ K c (e :: es) ⊢ iprop((Going m ρ K c es -∗ WP c k Q) -∗ WP c (step c (gV m ρ c) e k) Q) := by
  rcases e with b | b
  · unfold Going
    iintro ⟨%hg, #Hctx, HB, Ho, Hs, ⟨%f, %hf, Hf⟩, HO⟩ Hk
    ihave HB := (Entails.of_eq ((Blks_at m ρ c (.inl b :: es) b).trans (by rw [Blks_skip m ρ c _ es b (.inl rfl)]))) $$ HB
    icases HB with ⟨HB, HR⟩
    obtain ⟨h1, h2, h3, h4⟩ := hg
    ihave HB := (Entails.of_eq (Blk_todo m ρ (List.mem_cons_self ..))) $$ HB
    icases HB with ⟨H1, H2, HT⟩
    unfold step
    ihave H := (wp_pass m ρ K (lead c) (lead_ne c) c b (owed c es) (fun hf => mayWait_rcv (es := .inl b :: es) hf h3) k Q) $$ [H1 H2 Ho HO]
    · isplitr; · iexact Hctx
      isplitl [H1]; · iexact H1
      isplitl [H2]; · iexact H2
      isplitl [Ho]; · iexact Ho
      iexact HO
    iapply H
    iintro ⟨HG, Ho, HO⟩
    iapply Hk
    isplitr; · ipureintro; exact h4
    isplitr; · iexact Hctx
    isplitl [HG HT HR]
    · rw [Blks_at m ρ c es b, Blk_mid m ρ h1 h2]
      isplitr [HR]
      · isplitl [HG] <;> iassumption
      iexact HR
    isplitl [Ho]; · iexact Ho
    isplitl [Hs]; · iexact Hs
    isplitl [Hf]
    · iexists f
      isplitr
      · ipureintro
        intro b' hb'
        exact hf b' (by simpa using hb')
      iexact Hf
    iexact HO
  · unfold Going
    iintro ⟨%hg, #Hctx, HB, Ho, Hs, ⟨%f, %hf, Hf⟩, HO⟩ Hk
    ihave HB := (Entails.of_eq ((Blks_at m ρ c (.inr b :: es) b).trans (by rw [Blks_skip m ρ c _ es b (.inr rfl)]))) $$ HB
    icases HB with ⟨HB, HR⟩
    obtain ⟨h1, h2, h3, h4⟩ := hg
    ihave HB := (Entails.of_eq (Blk_mid m ρ (by simpa using h1) (List.mem_cons_self ..))) $$ HB
    unfold Tail
    icases HB with ⟨HG, H1, H2, Hx, H3⟩
    unfold step
    ihave H := (wp_pass m ρ K (lag c) (lag_ne c) c b (owed c es + sendT .x c b) (fun hf => mayWait_rcv (es := .inr b :: es) hf h3) (finish c (gV m ρ c) b k) Q) $$ [H1 H2 Ho HO]
    · isplitr; · iexact Hctx
      isplitl [H1]; · iexact H1
      isplitl [H2]; · iexact H2
      isplitl [Ho]; · iexact Ho
      iexact HO
    iapply H
    iintro ⟨HG', Ho, HO⟩
    ihave HG := (Entails.of_eq (lead_lag c fun ch => Got m ρ ch c b)) $$ [HG HG']
    · isplitl [HG] <;> iassumption
    unfold Got
    icases HG with ⟨⟨Hr, HSr, Hvr⟩, ⟨Hl, HSl, Hvl⟩⟩
    ihave H := (wp_finish m ρ K c b (owed c es) f k Q) $$ [Hr Hl Ho Hs Hx H3 Hf HO]
    · isplitr; · iexact Hctx
      isplitl [Hr]; · iexact Hr
      isplitl [Hl]; · iexact Hl
      isplitl [Ho]; · iexact Ho
      isplitl [Hs]; · iexact Hs
      isplitl [Hx]; · iexact Hx
      isplitl [H3]; · iexact H3
      isplitl [Hf]; · iexact Hf
      iexact HO
    iapply H
    iintro ⟨Hr, Hl, Ho, Hs, HSx, Hf, HO⟩
    iapply Hk
    isplitr; · ipureintro; exact h4
    isplitr; · iexact Hctx
    isplitl [Hr HSr Hvr Hl HSl Hvl HSx HR]
    · rw [Blks_at m ρ c es b, Blk_done m ρ h1 h2]
      isplitr [HR]
      · ihave HG := (Entails.of_eq (lead_lag c fun ch => Got m ρ ch c b).symm) $$ [Hr HSr Hvr Hl HSl Hvl]
        · unfold Got
          isplitl [Hr HSr Hvr]
          · isplitl [Hr]; · iexact Hr
            isplitl [HSr] <;> iassumption
          · isplitl [Hl]; · iexact Hl
            isplitl [HSl] <;> iassumption
        icases HG with ⟨HG, HG'⟩
        isplitl [HG]; · iexact HG
        isplitl [HG']; · iexact HG'
        iexact HSx
      iexact HR
    isplitl [Ho]; · iexact Ho
    isplitl [Hs]; · iexact Hs
    isplitl [Hf]
    · iexists (putRows c _ (own_le c b) (nB m ρ c b) f)
      isplitr
      · ipureintro
        intro b' hb'
        by_cases hbb : b' = b
        · subst hbb; exact get_put c _ _ _ _
        · rw [get_put_other]
          · exact hf b' (by simpa [hbb] using hb')
          · have : b'.val ≠ b.val := fun e => hbb (Fin.ext e)
            omega
      iexact Hf
    iexact HO

end Cert.KernelIdeal.Body

end
-- ==== Proof.KernelIdeal.Passes.lean ====
/-
What a device does once its neighbours have signalled: the three passes over its blocks, from first to last.
-/
module

public import proofs.«01_k».proof.Proof.KernelIdeal.Blocks

@[expose] public section

set_option maxRecDepth 40000

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A pass that treats every block alike -/

/-- A pass over blocks that turns `A b` into `B b`, by an invariant `J` of the blocks still to come. -/
theorem wp_each (c : Dev nD) (s : Fin 16 → KProg F → KProg F) (J : List (Fin 16) → sProp 𝕄) (A B : Fin 16 → sProp 𝕄) (Q : PUnit → sProp 𝕄)
    (hs : ∀ b l k, b ∉ l → iprop(J (b :: l) ∗ A b) ⊢ iprop(((J l ∗ B b) -∗ WP c k Q) -∗ WP c (s b k) Q)) (k : KProg F) :
    iprop(J blocks ∗ bigSep Finset.univ A) ⊢ iprop(((J [] ∗ bigSep Finset.univ B) -∗ WP c k Q) -∗ WP c (blocks.foldr s k) Q) := by
  have H := wp_foldr c s (fun l => iprop(⌜l.Nodup⌝ ∗ J l ∗ bigSep Finset.univ fun b => if b ∈ l then A b else B b)) Q (by
    intro b l k
    iintro ⟨%hn, HJ, HB⟩ Hk
    obtain ⟨hb, hn⟩ := List.nodup_cons.mp hn
    ihave HB := (Entails.of_eq (bigSep_univ_at (fun b' => if b' ∈ b :: l then A b' else B b') b)) $$ HB
    icases HB with ⟨HA, HR⟩
    ihave HA := (Entails.of_eq (if_pos (List.mem_cons_self ..))) $$ HA
    ihave H := (hs b l k hb) $$ [HJ HA]
    · isplitl [HJ] <;> iassumption
    iapply H
    iintro ⟨HJ, HB⟩
    iapply Hk
    isplitr; · ipureintro; exact hn
    isplitl [HJ]; · iexact HJ
    iapply (Entails.of_eq (bigSep_univ_at (fun b' => if b' ∈ l then A b' else B b') b).symm)
    isplitl [HB]
    · iapply (Entails.of_eq (if_neg hb).symm); iexact HB
    iapply (Entails.of_eq (bigSep_congr fun b' hb' => by simp [Finset.ne_of_mem_erase hb'])) $$ HR) blocks k
  iintro ⟨HJ, HA⟩ Hk
  iapply H $$ [HJ HA]
  · isplitr; · ipureintro; decide
    isplitl [HJ]; · iexact HJ
    iapply (Entails.of_eq (bigSep_congr fun b _ => (if_pos (by revert b; decide)).symm)) $$ HA
  iintro ⟨-, HJ, HB⟩
  iapply Hk
  isplitl [HJ]; · iexact HJ
  iapply (Entails.of_eq (bigSep_congr fun b _ => if_neg (by simp))) $$ HB

/-! ## The blocks of the device across -/

/-- The result is complete but for the device across's rows of the blocks `l`. -/
def AllRows (c : Dev nD) (l : List (Fin 16)) (f : Buf (Elt F) (outM.view.loc (c : Thread nD τ))) : Prop :=
  (∀ b : Fin 16, getRows c _ (own_le c b) f = nB m ρ c b) ∧ ∀ b : Fin 16, b ∉ l → getRows c _ (mate_le c b) f = wideP (srcV m ρ .x (across c) b)

/-- The state of the second pass with the blocks `l` to come. -/
def Taking (K : Dev nD × CK → ℕ) (c : Dev nD) (l : List (Fin 16)) : sProp 𝕄 :=
  iprop(ctx m ρ K ∗ ow c 0 ∗ ∃ f, ⌜AllRows m ρ c l f⌝ ∗ outHeld c f)

/-- A device that owes nothing may wait for anything. -/
theorem mayWait_nothing (c : Dev nD) (s : SemLoc sig) : (levAts L lv : sProp 𝕄) ⊢ MayWait (c : Thread nD τ) s () 0 := by
  rw [MayWait_zero]; iintro -; iempintro

/-- Taking over one block from the device across. -/
theorem wp_takeOver (K : Dev nD × CK → ℕ) (c : Dev nD) (Q : PUnit → sProp 𝕄) (b : Fin 16) (l : List (Fin 16)) (k : KProg F) (hb : b ∉ l) :
    iprop(Taking m ρ K c (b :: l) ∗ (cred (tallyAt (rcv .x b c) () N) ∗ atPos ER (rcv .x b c) 0 ∅ 0))
      ⊢ iprop(((Taking m ρ K c l ∗ (blkAny (dstM .x) c b ∗ over m ρ (rcv .x b c))) -∗ WP c k Q) -∗ WP c (takeOver c b k) Q) := by
  unfold Taking takeOver
  iintro ⟨⟨#Hctx, HO, ⟨%f, %hf, Hf⟩⟩, Hc, Ha⟩ Hk
  ihave H := (wp_recvB m ρ K .x c b rfl 0 (mayWait_nothing c _) _ Q) $$ [Hc Ha HO]
  · isplitr; · iexact Hctx
    isplitl [Hc]; · iexact Hc
    isplitl [Ha]; · iexact Ha
    iexact HO
  iapply H
  iintro ⟨Hb, Ha, HO⟩
  iapply (wp_loadB (dstM .x) c b fullShare) $$ Hb
  iintro Hb
  iapply (wp_storeRows c _ (mate_le c b) (wideP (srcV m ρ .x (across c) b)) f) $$ Hf
  iintro Hf
  iapply Hk
  isplitl [HO Hf]
  · isplitr; · iexact Hctx
    isplitl [HO]; · iexact HO
    iexists (putRows c _ (mate_le c b) (wideP (srcV m ρ .x (across c) b)) f)
    isplitr
    · ipureintro
      obtain ⟨h1, h2⟩ := hf
      have hx : xOf c < 2 := by have := c.isLt; unfold xOf; change c.val < 32 at this; omega
      refine ⟨fun b' => ?_, fun b' hb' => ?_⟩
      · exact (get_put_other c _ _ (own_le c b') (mate_le c b) (by omega) _ f).trans (h1 b')
      · by_cases hbb : b' = b
        · subst hbb; exact get_put c _ _ _ _
        · rw [get_put_other]
          · exact h2 b' (by simpa [hbb] using hb')
          · have : b'.val ≠ b.val := fun e => hbb (Fin.ext e)
            omega
    iexact Hf
  isplitl [Hb]; · iapply (blk_forget (dstM .x) c b _); iexact Hb
  iexact Ha

/-! ## The sends waited for -/

/-- Waiting until a block of a running sum has been sent, where one was. -/
theorem wp_drainOn (K : Dev nD × CK → ℕ) (ch : Ch) (hx : ch ≠ .x) (c : Dev nD) (b : Fin 16) (k : KProg F) (Q : PUnit → sProp 𝕄) :
    iprop(ctx m ρ K ∗ (Kept m ρ ch c b ∗ Sent ch c b) ∗ atPos ER (snd ch b c) 0 ∅ 0 ∗ ow c 0)
      ⊢ iprop(((blkAny (srcM ch) c b ∗ over m ρ (snd ch b c) ∗ ow c 0) -∗ WP c k Q) -∗ WP c (if lastOf ch c then k else sentB ch b k) Q) := by
  unfold Kept Sent keptQ
  by_cases hl : lastOf ch c = true
  · simp only [hl, if_true]
    iintro ⟨-, ⟨Hb, -⟩, Ha, HO⟩ Hk
    iapply Hk
    isplitl [Hb]; · iapply (blk_forget (srcM ch) c b _); iexact Hb
    isplitl [Ha]; · iapply (over_none m ρ c (some (true, ch, b)) (by simp only [dutiesOf, hl, if_true])); iexact Ha
    iexact HO
  · have hl : lastOf ch c = false := by simpa using hl
    simp only [hl, Bool.false_eq_true, if_false]
    iintro ⟨#Hctx, ⟨Hb, Hc⟩, Ha, HO⟩ Hk
    ihave H := (wp_sentB m ρ K ch c b hl k Q) $$ [Hc Ha HO]
    · isplitr; · iexact Hctx
      isplitl [Hc]; · iexact Hc
      isplitl [Ha]; · iexact Ha
      iexact HO
    iapply H
    iintro ⟨Hb', Ha, HO⟩
    iapply Hk
    isplitl [Hb Hb']
    · iapply (blk_joined (srcM ch) c b (srcV m ρ ch c b) (srcV m ρ ch c b))
      isplitl [Hb']
      · rw [lent_left hx]; iexact Hb'
      iexact Hb
    isplitl [Ha]; · iexact Ha
    iexact HO

/-- A finished block is always sent. -/
theorem sent_x (c : Dev nD) (b : Fin 16) : (Sent .x c b : sProp 𝕄) = cred (tallyAt (snd .x b c) () N) := by
  unfold Sent
  simp only [show lastOf .x c = false from rfl, Bool.false_eq_true, if_false]

/-- A block's copies as they are before the sends are waited for, -/
def Undrained (c : Dev nD) (b : Fin 16) : sProp 𝕄 :=
  iprop(((Got m ρ .r c b ∗ Got m ρ .l c b) ∗ Sent .x c b) ∗ atPos ER (snd .r b c) 0 ∅ 0 ∗ atPos ER (snd .l b c) 0 ∅ 0 ∗ atPos ER (snd .x b c) 0 ∅ 0)
/-- and after. -/
def Drained (c : Dev nD) (b : Fin 16) : sProp 𝕄 :=
  iprop((blkAny (srcM .r) c b ∗ blkAny (srcM .l) c b ∗ blkAny (srcM .x) c b)
    ∗ (over m ρ (snd .r b c) ∗ over m ρ (snd .l b c) ∗ over m ρ (snd .x b c)) ∗ over m ρ (rcv .r b c) ∗ over m ρ (rcv .l b c))

/-- Waiting until all copies of a block have been sent. -/
theorem wp_drain (K : Dev nD × CK → ℕ) (c : Dev nD) (Q : PUnit → sProp 𝕄) (b : Fin 16) (l : List (Fin 16)) (k : KProg F) (hb : b ∉ l) :
    iprop((ctx m ρ K ∗ ow c 0) ∗ Undrained m ρ c b)
      ⊢ iprop((((ctx m ρ K ∗ ow c 0) ∗ Drained m ρ c b) -∗ WP c k Q) -∗ WP c (drain c b k) Q) := by
  unfold Undrained Drained Got drain
  iintro ⟨⟨#Hctx, HO⟩, ⟨⟨⟨Hr, HSr, Hvr⟩, ⟨Hl, HSl, Hvl⟩⟩, HSx⟩, Har, Hal, Hax⟩ Hk
  ihave H := (wp_sentB m ρ K .x c b rfl _ Q) $$ [HSx Hax HO]
  · isplitr; · iexact Hctx
    isplitl [HSx]; · iapply (Entails.of_eq (sent_x (F := F) c b)); iexact HSx
    isplitl [Hax]; · iexact Hax
    iexact HO
  iapply H
  iintro ⟨Hx, Hax, HO⟩
  ihave H := (wp_drainOn m ρ K .r (by decide) c b _ Q) $$ [Hr HSr Har HO]
  · isplitr; · iexact Hctx
    isplitl [Hr HSr]
    · isplitl [Hr] <;> iassumption
    isplitl [Har]; · iexact Har
    iexact HO
  iapply H
  iintro ⟨Hr, Har, HO⟩
  ihave H := (wp_drainOn m ρ K .l (by decide) c b k Q) $$ [Hl HSl Hal HO]
  · isplitr; · iexact Hctx
    isplitl [Hl HSl]
    · isplitl [Hl] <;> iassumption
    isplitl [Hal]; · iexact Hal
    iexact HO
  iapply H
  iintro ⟨Hl, Hal, HO⟩
  iapply Hk
  isplitl [HO]
  · isplitr; · iexact Hctx
    iexact HO
  isplitl [Hr Hl Hx]
  · isplitl [Hr]; · iexact Hr
    isplitl [Hl]; · iexact Hl
    iapply (blk_forget (srcM .x) c b (srcV m ρ .x c b)); iexact Hx
  isplitl [Har Hal Hax]
  · isplitl [Har]; · iexact Har
    isplitl [Hal]; · iexact Hal
    iexact Hax
  isplitl [Hvr]; · iexact Hvr
  iexact Hvl

/-! ## All of it -/

/-- A block before the first pass. -/
def Fresh (c : Dev nD) (b : Fin 16) : sProp 𝕄 :=
  iprop((InR .r c b ∗ OutR .r c b) ∗ (InR .l c b ∗ OutR .l c b) ∗ blkAny (srcM .x) c b ∗ OutR .x c b)

/-- Before the passes every block has both before it. -/
theorem fresh_todo (c : Dev nD) (b : Fin 16) : Fresh c b ⊢ Blk m ρ c (order c) b := by
  rw [Blk_todo m ρ (mem_order c b)]
  unfold Fresh Tail
  iintro ⟨H1, H2, H3, H4⟩
  ihave H := (Entails.of_eq (lead_lag c fun ch => iprop(InR ch c b ∗ OutR ch c b)).symm) $$ [H1 H2]
  · isplitl [H1] <;> iassumption
  icases H with ⟨⟨H1, H2⟩, H5, H6⟩
  isplitl [H1]; · iexact H1
  isplitl [H2]; · iexact H2
  isplitl [H5]; · iexact H5
  isplitl [H6]; · iexact H6
  isplitl [H3]; · iexact H3
  iexact H4

/-- After them it has both behind it. -/
theorem done_split (c : Dev nD) (b : Fin 16) : Blk m ρ c [] b ⊢ iprop((Got m ρ .r c b ∗ Got m ρ .l c b) ∗ Sent .x c b) := by
  rw [Blk_done m ρ (by simp) (by simp), ← lead_lag c fun ch => Got m ρ ch c b]
  iintro ⟨H1, H2, H3⟩
  isplitl [H1 H2]
  · isplitl [H1] <;> iassumption
  iexact H3

/-- All passes, all blocks taken over and all copies waited for. -/
theorem wp_work (K : Dev nD × CK → ℕ) (c : Dev nD) (Q : PUnit → sProp 𝕄) :
    iprop(ctx m ρ K ∗ bigSep Finset.univ (Fresh (F := F) c) ∗ oHeld m ρ c ∗ sHeld m ρ c ∗ (∃ f, outHeld c f) ∗ ow c (owed c (order c))
        ∗ (bigSep Finset.univ fun b => iprop(cred (tallyAt (rcv .x b c) () N) ∗ atPos ER (rcv .x b c) 0 ∅ 0))
        ∗ (bigSep Finset.univ fun b => iprop(atPos ER (snd .r b c) 0 ∅ 0 ∗ atPos ER (snd .l b c) 0 ∅ 0 ∗ atPos ER (snd .x b c) 0 ∅ 0)))
      ⊢ iprop(((oHeld m ρ c ∗ sHeld m ρ c ∗ (∃ f, ⌜AllRows m ρ c [] f⌝ ∗ outHeld c f) ∗ ow c 0
            ∗ (bigSep Finset.univ fun b => iprop(blkAny (dstM .x) c b ∗ over m ρ (rcv .x b c))) ∗ bigSep Finset.univ (Drained m ρ c)) -∗ |={Set.univ}=> Q ⟨⟩)
          -∗ WP c (work c (gV m ρ c)) Q) := by
  iintro ⟨#Hctx, HB, Ho, Hs, ⟨%f, Hf⟩, HO, Hx, Hd⟩ Hk
  unfold work
  ihave HB := (show bigSep Finset.univ (Fresh (F := F) c) ⊢ bigSep Finset.univ (Blk m ρ c (order c)) from BI.bigSep_mono fun b _ => fresh_todo m ρ c b) $$ HB
  ihave H := (wp_foldr c (step c (gV m ρ c)) (Going m ρ K c) Q (fun e l k => wp_step m ρ K c e l k Q) (order c) _) $$ [HB Ho Hs Hf HO]
  · unfold Going
    isplitr; · ipureintro; exact good_order c
    isplitr; · iexact Hctx
    isplitl [HB]; · iexact HB
    isplitl [Ho]; · iexact Ho
    isplitl [Hs]; · iexact Hs
    isplitl [Hf]
    · iexists f
      isplitr
      · ipureintro
        intro b hb
        exact absurd (show .inr b ∈ order c from by
          have : ∀ (c : Fin 32) (b : Fin 16), .inr b ∈ order c := by decide +kernel
          exact this c b) hb
      iexact Hf
    iexact HO
  iapply H
  unfold Going
  iintro ⟨-, -, HB, Ho, Hs, ⟨%f, %hf, Hf⟩, HO⟩
  ihave H := (wp_each c (takeOver c) (Taking m ρ K c) _ _ Q (wp_takeOver m ρ K c Q) _) $$ [Hf HO Hx]
  · isplitl [Hf HO]
    · unfold Taking
      isplitr; · iexact Hctx
      isplitl [HO]; · unfold owed; iexact HO
      iexists f
      isplitr
      · ipureintro
        exact ⟨fun b => hf b (by simp), fun b hb => absurd (show b ∈ blocks from by revert b; decide) hb⟩
      iexact Hf
    iexact Hx
  iapply H
  unfold Taking
  iintro ⟨⟨-, HO, Hf⟩, Hx⟩
  ihave H := (wp_each c (drain c) (fun _ => iprop(ctx m ρ K ∗ ow c 0)) (Undrained m ρ c) (Drained m ρ c) Q (wp_drain m ρ K c Q) (.ret ⟨⟩)) $$ [HO HB Hd]
  · isplitl [HO]
    · isplitr; · iexact Hctx
      iexact HO
    unfold Undrained
    iapply (Entails.of_eq (bigSep_sep' _ _ _).symm)
    isplitl [HB]
    · iapply (show bigSep Finset.univ (Blk m ρ c []) ⊢ bigSep Finset.univ fun b => iprop((Got m ρ .r c b ∗ Got m ρ .l c b) ∗ Sent .x c b) from
        BI.bigSep_mono fun b _ => done_split m ρ c b) $$ HB
    iexact Hd
  iapply H
  iintro ⟨⟨-, HO⟩, HD⟩
  unfold WP
  rw [wp_ret]
  iapply Hk
  isplitl [Ho]; · iexact Ho
  isplitl [Hs]; · iexact Hs
  isplitl [Hf]; · iexact Hf
  isplitl [HO]; · iexact HO
  isplitl [Hx]; · iexact Hx
  iexact HD

end Cert.KernelIdeal.Body

end
-- ==== Proof.KernelIdeal.Device.lean ====
/-
A device's whole run: from its buffers, its tokens and what it owes to the finished result.
-/
module

public import proofs.«01_k».proof.Proof.KernelIdeal.Passes
public import Idealize.ShloMosaic.Lib.Ring

@[expose] public section

set_option maxRecDepth 40000

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A buffer and its blocks -/

/-- The elements of block `b`, as elements of the buffer. -/
abbrev blkT (M : Memref sig .tc .vmem S16x32x1024 .bf16) (b : Fin 16) : Finset M.view.ty.Idx := blkS M b

/-- Different blocks share no place, -/
theorem blk_disjoint (M : Memref sig .tc .vmem S16x32x1024 .bf16) (b b' : Fin 16) (h : b ≠ b') : Disjoint (blkT M b) (blkT M b') := by
  refine View.disjoint_slice (v := M.view) ?_
  rw [Finset.disjoint_left]
  intro i hi hi'
  have h1 := (Rect.mem_set_unit.mp hi) 0
  have h2 := (Rect.mem_set_unit.mp hi') 0
  change b.val ≤ (i 0).val ∧ (i 0).val < b.val + 1 at h1
  change b'.val ≤ (i 0).val ∧ (i 0).val < b'.val + 1 at h2
  exact h (Fin.ext (by omega))

/-- every place is in a block, -/
theorem blk_mem (i : S16x32x1024.Idx) : ∃ b : Fin 16, i ∈ (blkR b).set := by
  refine ⟨⟨(i 0).val, (i 0).isLt⟩, Rect.mem_set_unit.mpr fun a => ?_⟩
  have := (i a).isLt
  fin_cases a
  · exact ⟨Nat.le_refl _, Nat.lt_succ_self _⟩
  · exact ⟨Nat.zero_le _, by simpa using this⟩
  · exact ⟨Nat.zero_le _, by simpa using this⟩

/-- so the blocks are the buffer. -/
theorem blk_cover (M : Memref sig .tc .vmem S16x32x1024 .bf16) (hM : M.view.set = Finset.univ) : Finset.univ.biUnion (blkT M) = Finset.univ := by
  ext i
  simp only [Finset.mem_biUnion, Finset.mem_univ, true_and, iff_true]
  have hi : i ∈ M.view.set := by rw [hM]; exact Finset.mem_univ _
  obtain ⟨x, -, rfl⟩ := Finset.mem_map.mp hi
  obtain ⟨b, hb⟩ := blk_mem x
  refine ⟨b, ?_⟩
  show M.view.emb x ∈ (M.view.slice (blkR b)).set
  rw [View.set_slice]
  exact Finset.mem_map_of_mem _ hb

/-- The buffers are held whole. -/
theorem src_set (ch : Ch) : (srcM ch).view.set = Finset.univ := by cases ch <;> exact View.set_whole _
theorem dst_set (ch : Ch) : (dstM ch).view.set = Finset.univ := by cases ch <;> exact View.set_whole _

/-- A buffer held is its blocks held, -/
theorem blocks_of (M : Memref sig .tc .vmem S16x32x1024 .bf16) (hM : M.view.set = Finset.univ) (c : Dev nD) :
    iprop(∃ f : Buf (Elt F) (M.view.loc (c : Thread nD τ)), (M.view.loc (c : Thread nD τ) ↦{fullShare} f : sProp 𝕄))
      ⊢ bigSep Finset.univ fun b => blkAny M c b := by
  iintro ⟨%f, Hf⟩
  ihave H := (Entails.of_eq (Ring.pointsTo_blocks (blkT M) (blk_disjoint M) (blk_cover M hM) f)) $$ Hf
  iapply (show (bigSep Finset.univ fun b => (M.view.loc (c : Thread nD τ) ↦[blkS M b]{fullShare} f : sProp 𝕄)) ⊢ bigSep Finset.univ fun b => blkAny M c b from
    BI.bigSep_mono fun b _ => by
      unfold blkAny
      show (M.view.loc (c : Thread nD τ) ↦[blkS M b]{fullShare} f : sProp 𝕄) ⊢ iprop(∃ f, M.view.loc (c : Thread nD τ) ↦[blkS M b]{fullShare} f)
      iintro H; iexists f; iexact H) $$ H
/-- and back. -/
theorem whole_of (M : Memref sig .tc .vmem S16x32x1024 .bf16) (hM : M.view.set = Finset.univ) (c : Dev nD) (f₀ : Buf (Elt F) (M.view.loc (c : Thread nD τ))) :
    (bigSep Finset.univ fun b => blkAny (F := F) M c b)
      ⊢ iprop(∃ f : Buf (Elt F) (M.view.loc (c : Thread nD τ)), (M.view.loc (c : Thread nD τ) ↦{fullShare} f : sProp 𝕄)) := by
  have H := Ring.pointsTo_blocks_join_exists (Ix := Unit) (Val := Elt F) (Name := ℕ) (U := UU) (Lvl := ℕ) (ℓ := M.view.loc (c : Thread nD τ))
    (blkT M) (blk_disjoint M) (blk_cover M hM) (q := fullShare) f₀
  unfold blkAny
  exact H

/-! ## What a device is dealt -/

/-- The token with which it signals the device a channel comes from. -/
def SigTok (ch : Ch) (c : Dev nD) : sProp 𝕄 := iprop(if firstOf ch c then emp else dutyTok ER (bar (from' ch c)) 0 ch)
/-- The tokens of a block's copy. -/
def OutTok (ch : Ch) (c : Dev nD) (b : Fin 16) : sProp 𝕄 :=
  iprop(if lastOf ch c then emp else (dutyTok ER (snd ch b c) 0 ch ∗ dutyTok ER (rcv ch b (dest ch c)) 0 ch))
/-- The credit of a block to be received. -/
def InCred (ch : Ch) (c : Dev nD) (b : Fin 16) : sProp 𝕄 := iprop(if firstOf ch c then emp else cred (tallyAt (rcv ch b c) () N))

/-- Its tokens, -/
def Toks (c : Dev nD) : sProp 𝕄 := bigSep Finset.univ fun ch => iprop(SigTok ch c ∗ bigSep Finset.univ fun b => OutTok ch c b)
/-- its credits, -/
def Creds (c : Dev nD) : sProp 𝕄 :=
  iprop(cred (tallyAt (bar c) () (degree c)) ∗ bigSep Finset.univ fun ch => bigSep Finset.univ fun b => InCred ch c b)
/-- its cells, -/
def Cells (c : Dev nD) : sProp 𝕄 := bigSep Finset.univ fun k : CK => atPos ER (kcell (c, k)) 0 ∅ 0
/-- a buffer of its own with any contents, -/
def anyBuf (M : Memref sig .tc .vmem S16x32x1024 .bf16) (c : Dev nD) : sProp 𝕄 :=
  iprop(∃ f : Buf (Elt F) (M.view.loc (c : Thread nD τ)), M.view.loc (c : Thread nD τ) ↦{fullShare} f)
/-- all of its buffers. -/
def Bufs (c : Dev nD) : sProp 𝕄 :=
  iprop(anyBuf oM c ∗ anyBuf (dstM .r) c ∗ anyBuf (dstM .l) c ∗ anyBuf (srcM .x) c ∗ anyBuf (dstM .x) c)
/-- The staged partial sums and gamma. -/
def pHeld (c : Dev nD) : sProp 𝕄 := iprop(parM.view.loc (c : Thread nD τ) ↦{fullShare} (show Buf (Elt F) (parM.view.loc (c : Thread nD τ)) from parW m ρ c))
/-- The device holds gamma. -/
def gHeld (c : Dev nD) : sProp 𝕄 := iprop(gamM.view.loc (c : Thread nD τ) ↦{fullShare} (show Buf (Elt F) (gamM.view.loc (c : Thread nD τ)) from gamW m ρ c))

/-- One for each channel; one for each of two. -/
theorem bigSep_Ch (Φ : Ch → sProp 𝕄) : bigSep Finset.univ Φ = iprop(Φ .r ∗ Φ .l ∗ Φ .x) :=
  bigSep_univ_eq_bigSepL [Ch.r, Ch.l, Ch.x] (by decide) (by decide) Φ
theorem bigSep_Bool (Φ : Bool → sProp 𝕄) : bigSep Finset.univ Φ = iprop(Φ true ∗ Φ false) :=
  bigSep_univ_eq_bigSepL [true, false] (by decide) (by decide) Φ

/-- A conjunction over a device's cells, spelt out. -/
theorem bigSep_CK (Φ : CK → sProp 𝕄) :
    bigSep Finset.univ Φ = iprop(Φ none
      ∗ ((bigSep Finset.univ fun b => Φ (some (true, .r, b))) ∗ (bigSep Finset.univ fun b => Φ (some (true, .l, b))) ∗ (bigSep Finset.univ fun b => Φ (some (true, .x, b))))
      ∗ ((bigSep Finset.univ fun b => Φ (some (false, .r, b))) ∗ (bigSep Finset.univ fun b => Φ (some (false, .l, b))) ∗ (bigSep Finset.univ fun b => Φ (some (false, .x, b))))) := by
  rw [bigSep_univ_at Φ none, show (Finset.univ.erase (none : CK)) = Finset.univ.map ⟨some, Option.some_injective _⟩ from by
      ext k; cases k <;> simp, bigSep_map, bigSep_univ_prod, bigSep_Bool, bigSep_univ_prod, bigSep_univ_prod, bigSep_Ch, bigSep_Ch]
  rfl

/-! ## Signalling -/

/-- What a device keeps of a landing buffer: all of it where the channel starts, nothing where it is lent. -/
def Stay (ch : Ch) (c : Dev nD) : sProp 𝕄 := iprop(if firstOf ch c then bigSep Finset.univ (fun b => blkAny (dstM ch) c b) else emp)

/-- Signalling a neighbour's barrier, which hands over the buffer that its copies land in. -/
theorem wp_signalOn (K : Dev nD × CK → ℕ) (ch : Ch) (c : Dev nD) (O : CellTallies nD τ sig Unit) (k : KProg F) (Q : PUnit → sProp 𝕄) :
    iprop(ctx m ρ K ∗ SigTok ch c ∗ (bigSep Finset.univ fun b => blkAny (dstM ch) c b) ∗ ow c (O + sigT ch c))
      ⊢ iprop(((Stay ch c ∗ ow c O) -∗ WP c k Q) -∗ WP c (if firstOf ch c then k else signalB (from' ch c) k) Q) := by
  unfold SigTok Stay sigT
  by_cases hf : firstOf ch c = true
  · simp only [hf, if_true, add_zero]
    iintro ⟨-, -, Hb, HO⟩ Hk
    iapply Hk
    isplitl [Hb] <;> iassumption
  · have hf : firstOf ch c = false := by simpa using hf
    simp only [hf, Bool.false_eq_true, if_false]
    unfold ow signalB
    iintro ⟨#Hctx, Ht, Hb, ⟨%W, HO⟩⟩ Hk
    ihave H := (Rounds.wp_signal 𝒱₀ ER (Rd m ρ) (c : Thread nD τ) none (dst := (from' ch c : Thread nD τ)) (κ := K (from' ch c, none)) (r := 0)
        (d := ch) (mem_duties_bar m ρ ((last_from ch c).trans hf)) (amount_at m ρ (from' ch c) none ch) () O rfl (W := W) (Es := Set.univ) (k := fun _ => k) (Q := Q)) $$ [Ht Hb HO]
    · isplitr; · iapply (ctx_inv m ρ K (from' ch c, none)); iexact Hctx
      isplitl [HO]; · iexact HO
      isplitl [Ht]; · iexact Ht
      isplitl [Hb]
      · iapply (show (bigSep Finset.univ fun b => blkAny (dstM ch) c b) ⊢ (Rd (F := F) m ρ).payload ((from' ch c : Thread nD τ), .reg barS) 0 ch from
          Entails.of_eq (((payload_at m ρ (from' ch c) none ch).trans (by unfold payOf; rw [dest_from])).symm))
        iexact Hb
      iapply (ctx_reached m ρ K (from' ch c, none)); iexact Hctx
    iapply H
    iintro HO
    iapply Hk
    isplitr; · iempintro
    iexists W; iexact HO

/-! ## Waiting for the neighbours -/

/-- The landing buffer a neighbour lends. -/
def Handed (ch : Ch) (c : Dev nD) : sProp 𝕄 := iprop(if lastOf ch c = false then bigSep Finset.univ (fun b => blkAny (dstM ch) (dest ch c) b) else emp)

/-- Waiting at the barrier, which yields the buffers of all neighbours. -/
theorem wp_barrier (K : Dev nD × CK → ℕ) (c : Dev nD) (es : List (Fin 16 ⊕ Fin 16)) (k : KProg F) (Q : PUnit → sProp 𝕄) :
    iprop(ctx m ρ K ∗ cred (tallyAt (bar c) () (degree c)) ∗ atPos ER (bar c) 0 ∅ 0 ∗ ow c (owed c es))
      ⊢ iprop((((Handed .r c ∗ Handed .l c ∗ Handed .x c) ∗ over m ρ (bar c) ∗ ow c (owed c es)) -∗ WP c k Q)
          -∗ WP c (.op (.semWait barS (degree c)) fun _ => k) Q) := by
  unfold ow
  have hw : ctx m ρ K ⊢ MayWait (c : Thread nD τ) (csem none) () (owed c es) := (ctx_lev m ρ K).trans (by unfold levs; exact mayWait_bar c es)
  iintro ⟨#Hctx, Hc, Ha, ⟨%W, HO⟩⟩ Hk
  ihave H := (show iprop(cellInv ER (Rd m ρ) (K (c, none)) (bar c) ∗ cred (tallyAt (bar c) () (degree c)) ∗ owes (c : Thread nD τ) (owed c es) W
        ∗ MayWait (c : Thread nD τ) (csem none) () (owed c es) ∗ atPos ER (bar c) 0 ∅ 0)
      ⊢ iprop(((owes (c : Thread nD τ) (owed c es) (insert (csem none, ()) W) ∗ atPos ER (bar c) (0 + 1) ∅ 0 ∗ reached ER (bar c) (0 + 1)
          ∗ bigSep ((Rd m ρ).duties (bar c) 0 \ ∅) fun d => (Rd m ρ).payload (bar c) 0 d) -∗ WP c k Q) -∗ WP c (.op (.semWait barS (degree c)) fun _ => k) Q) from
    Rounds.wp_wait_rest_token 𝒱₀ ER (Rd m ρ) (c : Thread nD τ) none (sm := csem none) (κ := K (c, none)) (k := fun _ => k)
      (wpE_semWait_eq 𝒱₀ (c : Thread nD τ) none Set.univ) (Set.mem_univ _) () (O := owed c es) (W := W) (R := 0) (m := 0) (T := ∅)
      ((Nat.zero_add _).trans (expect_bar m ρ c).symm)) $$ [Hc Ha HO]
  · isplitr; · iapply (ctx_inv m ρ K (c, none)); iexact Hctx
    isplitl [Hc]; · iexact Hc
    isplitl [HO]; · iexact HO
    isplitr; · iapply hw; iexact Hctx
    iexact Ha
  iapply H
  iintro ⟨HO, Ha, -, Hp⟩
  ihave Hp := (Entails.of_eq (show bigSep ((Rd m ρ).duties (bar c) 0 \ ∅) (fun d => (Rd m ρ).payload (bar c) 0 d)
      = iprop(Handed .r c ∗ Handed .l c ∗ Handed .x c) from by
    rw [Finset.sdiff_empty, duties_at, bigSep_congr fun d _ => payload_at m ρ c none d]
    unfold dutiesOf
    rw [bigSep_filter, bigSep_Ch]
    rfl)) $$ Hp
  iapply Hk
  isplitl [Hp]; · iexact Hp
  isplitl [Ha]
  · unfold over
    iexists (0 + 1)
    isplitr; · ipureintro; exact fun r hr => duties_later m ρ _ r hr
    iexact Ha
  iexists _; iexact HO

/-! ## What the blocks start from -/

/-- What a direction needs to receive all blocks, -/
theorem in_all (ch : Ch) (hx : ch ≠ .x) (c : Dev nD) :
    iprop(Stay ch c ∗ (bigSep Finset.univ fun b => InCred ch c b) ∗ bigSep Finset.univ fun b => atPos ER (rcv ch b c) 0 ∅ 0)
      ⊢ bigSep Finset.univ fun b => InR (F := F) ch c b := by
  unfold Stay InCred InR
  rw [bigSep_sep', dst_src hx]
  by_cases hf : firstOf ch c = true
  · simp only [hf, if_true]
    iintro ⟨H1, -, H2⟩
    isplitl [H1] <;> iassumption
  · have hf : firstOf ch c = false := by simpa using hf
    simp only [hf, Bool.false_eq_true, if_false]
    iintro ⟨-, H1, H2⟩
    isplitl [H1] <;> iassumption
/-- and to send them. -/
theorem out_all (ch : Ch) (c : Dev nD) :
    iprop(Handed ch c ∗ bigSep Finset.univ fun b => OutTok ch c b) ⊢ bigSep Finset.univ fun b => OutR (F := F) ch c b := by
  unfold Handed OutTok OutR
  by_cases hl : lastOf ch c = true
  · simp only [hl, if_true]
    iintro ⟨-, H⟩
    iexact H
  · have hl : lastOf ch c = false := by simpa using hl
    simp only [hl, Bool.false_eq_true, if_true, if_false, bigSep_sep']
    iintro ⟨H, H1, H2⟩
    isplitl [H1]; · iexact H1
    isplitl [H2] <;> iassumption

/-- Finished blocks always come. -/
theorem incred_x (c : Dev nD) (b : Fin 16) : (InCred .x c b : sProp 𝕄) = cred (tallyAt (rcv .x b c) () N) := by
  unfold InCred
  simp only [show firstOf .x c = false from rfl, Bool.false_eq_true, if_false]

/-! ## The run -/

/-- The printed signals are one signal over a channel. -/
theorem signal_up (c : Dev nD) (k : KProg F) : (if yOf c = 0 then k else signalB (down c) k) = if firstOf .r c then k else signalB (from' .r c) k := by
  by_cases h : yOf c = 0 <;> simp [h, firstOf, from']
theorem signal_down (c : Dev nD) (k : KProg F) : (if yOf c = 3 then k else signalB (up c) k) = if firstOf .l c then k else signalB (from' .l c) k := by
  by_cases h : yOf c = 3 <;> simp [h, firstOf, from']
theorem signal_across (c : Dev nD) (k : KProg F) : signalB (across c) k = if firstOf .x c then k else signalB (from' .x c) k := by
  simp [firstOf, from']

/-- The buffer of own partial sums after it has been written. -/
theorem filled (c : Dev nD) (f : Buf (Elt F) (oM.view.loc (c : Thread nD τ))) :
    ((oM.access (Rect.unit (s := S16x32x1024) ![0, 0, 0] S16x32x1024.size inb_S16x32x1024_S16x32x1024_0_0_0)).loc (c : Thread nD τ) ↦{fullShare}
      (oM.access (Rect.unit (s := S16x32x1024) ![0, 0, 0] S16x32x1024.size inb_S16x32x1024_S16x32x1024_0_0_0)).write (Elt F) f
        (halfP ((parM.access (Rect.unit (s := S1x1024x1024) ![0, 512 * xOf c, 0] S1x512x1024.size (half_inb c))).read (Elt F) (parW m ρ c))) Finset.univ : sProp 𝕄)
    = (oM.view.loc (c : Thread nD τ) ↦{fullShare} (show Buf (Elt F) (oM.view.loc (c : Thread nD τ)) from oW m ρ c)) :=
  congrArg (fun w => (oM.view.loc (c : Thread nD τ) ↦{fullShare} w : sProp 𝕄))
    (Memref.write_access_unit_zero_univ (Elt F) cc0_scratch0 (off := ![0, 0, 0]) (by funext a; fin_cases a <;> rfl) inb_S16x32x1024_S16x32x1024_0_0_0 f
      (halfP ((parM.access (Rect.unit (s := S1x1024x1024) ![0, 512 * xOf c, 0] S1x512x1024.size (half_inb c))).read (Elt F) (parW m ρ c))))

/-- Reading the device's half of the partial sums into the blocks. -/
theorem wp_fill (c : Dev nD) (k : KProg F) (Q : PUnit → sProp 𝕄) :
    iprop(pHeld m ρ c ∗ anyBuf oM c)
      ⊢ iprop(((pHeld m ρ c ∗ oHeld m ρ c) -∗ WP c k Q) -∗ WP c
        (.op (.load (Memref.whole cc0_stg0_0 : Memref sig .tc .vmem S1x1024x1024 .bf16) (Rect.unit (s := S1x1024x1024) ![0, 512 * xOf c, 0] S1x512x1024.size (half_inb c)).toLoadRect (View.loadsAt_vmem h_S1x512x1024)) fun p =>
         .op (.load oM (Rect.unit (s := S16x32x1024) ![0, 0, 0] S16x32x1024.size inb_S16x32x1024_S16x32x1024_0_0_0).toLoadRect (View.loadsAt_vmem h_S16x32x1024)) fun _ =>
         .op (.store oM (Rect.unit (s := S16x32x1024) ![0, 0, 0] S16x32x1024.size inb_S16x32x1024_S16x32x1024_0_0_0) (halfP p) Finset.univ
           (View.stores_vmem h_S16x32x1024 (o_whole.storeExact_slice rfl _ packedbf16_S16x32x1024_S16x32x1024_0_0_0) (fun _ => rfl)) (.inl rfl)) fun _ => k) Q) := by
  unfold pHeld anyBuf oHeld
  iintro ⟨Hp, ⟨%f, Hf⟩⟩ Hk
  iapply (wp_load_rect 𝒱₀ (c : Thread nD τ) none Set.univ (m := parM) (r := Rect.unit (s := S1x1024x1024) ![0, 512 * xOf c, 0] S1x512x1024.size (half_inb c)) (Finset.subset_univ _)) $$ Hp
  iintro Hp
  iapply (wp_load_rect 𝒱₀ (c : Thread nD τ) none Set.univ (m := oM) (r := Rect.unit (s := S16x32x1024) ![0, 0, 0] S16x32x1024.size inb_S16x32x1024_S16x32x1024_0_0_0) (Finset.subset_univ _)) $$ Hf
  iintro Hf
  iapply (wp_store 𝒱₀ (c : Thread nD τ) none Set.univ (m := oM) (r := Rect.unit (s := S16x32x1024) ![0, 0, 0] S16x32x1024.size inb_S16x32x1024_S16x32x1024_0_0_0)
    (Mk := Finset.univ) (S := Finset.univ) (Finset.subset_univ _)) $$ Hf
  iintro Hf
  iapply Hk
  isplitl [Hp]; · iexact Hp
  iapply (Entails.of_eq (filled m ρ c f)) $$ Hf

/-- Reading gamma. -/
theorem wp_gamma (c : Dev nD) (k : Vec F S1024 .bf16 → KProg F) (Q : PUnit → sProp 𝕄) :
    gHeld m ρ c ⊢ iprop((gHeld m ρ c -∗ WP c (k ((gamM.access (Rect.unit (s := S1024) ![0] S1024.size inb_S1024_S1024_0)).read (Elt F) (gamW m ρ c))) Q)
      -∗ WP c (.op (.load (Memref.whole cc0_stg2_0 : Memref sig .tc .vmem S1024 .bf16) (Rect.unit (s := S1024) ![0] S1024.size inb_S1024_S1024_0).toLoadRect (View.loadsAt_vmem h_S1024)) k) Q) := by
  unfold gHeld
  iintro Hf Hk
  iapply (wp_load_rect 𝒱₀ (c : Thread nD τ) none Set.univ (m := gamM) (r := Rect.unit (s := S1024) ![0] S1024.size inb_S1024_S1024_0) (Finset.subset_univ _)) $$ Hf
  iintro Hf
  iapply Hk
  iexact Hf

/-- What a device starts from, -/
def BodyIn (K : Dev nD × CK → ℕ) (c : Dev nD) : sProp 𝕄 :=
  iprop(ctx m ρ K ∗ Cells c ∗ Toks c ∗ Creds c ∗ Bufs c ∗ pHeld m ρ c ∗ sHeld m ρ c ∗ gHeld m ρ c ∗ (∃ f, outHeld c f) ∗ ow c (O₀ c))
/-- and what it ends with. -/
def BodyOut (c : Dev nD) : sProp 𝕄 :=
  iprop(Bufs c ∗ (bigSep Finset.univ fun k : CK => semVal (kcell (c, k)) 0) ∗ pHeld m ρ c ∗ sHeld m ρ c ∗ gHeld m ρ c
    ∗ (∃ f, ⌜AllRows m ρ c [] f⌝ ∗ outHeld c f) ∗ ow c 0)

/-- All the cells of a device that are over are closed. -/
theorem close_all (K : Dev nD × CK → ℕ) (c : Dev nD) :
    iprop(ctx m ρ K ∗ bigSep Finset.univ fun k : CK => over m ρ (kcell (c, k)))
      ⊢ (|={Set.univ}=> bigSep Finset.univ fun k : CK => semVal (kcell (c, k)) 0 : sProp 𝕄) :=
  (BI.bigSep_with_persistent fun k _ => over_close m ρ K c k).trans (bigSep_fupd _ _)

/-- The run after the neighbours have signalled. -/
theorem wp_rest (K : Dev nD × CK → ℕ) (c : Dev nD) (Q : PUnit → sProp 𝕄) :
    iprop(ctx m ρ K ∗ Cells c ∗ (bigSep Finset.univ fun ch => bigSep Finset.univ fun b => OutTok ch c b) ∗ Creds c
        ∗ (Stay .r c ∗ Stay .l c) ∗ anyBuf (srcM .x) c ∗ oHeld m ρ c ∗ sHeld m ρ c ∗ (∃ f, outHeld c f) ∗ ow c (owed c (order c)))
      ⊢ iprop(((Bufs c ∗ (bigSep Finset.univ fun k : CK => semVal (kcell (c, k)) 0) ∗ sHeld m ρ c ∗ (∃ f, ⌜AllRows m ρ c [] f⌝ ∗ outHeld c f) ∗ ow c 0) -∗ Q ⟨⟩)
          -∗ WP c (.op (.semWait barS (degree c)) fun _ => work c (gV m ρ c)) Q) := by
  unfold Cells Creds
  rw [bigSep_CK, bigSep_Ch, bigSep_Ch]
  iintro ⟨#Hctx, ⟨Hab, ⟨Hsr, Hsl, Hsx⟩, ⟨Har, Hal, Hax⟩⟩, ⟨Htr, Htl, Htx⟩, ⟨Hcb, Hcr, Hcl, Hcx⟩, ⟨Hyr, Hyl⟩, Hn, Ho, Hs, Hf, HO⟩ Hk
  ihave H := (wp_barrier m ρ K c (order c) (work c (gV m ρ c)) Q) $$ [Hcb Hab HO]
  · isplitr; · iexact Hctx
    isplitl [Hcb]; · iexact Hcb
    isplitl [Hab]; · iexact Hab
    iexact HO
  iapply H
  iintro ⟨⟨Hhr, Hhl, Hhx⟩, Hab, HO⟩
  ihave Hir := (in_all (F := F) .r (by decide) c) $$ [Hyr Hcr Har]
  · isplitl [Hyr]; · iexact Hyr
    isplitl [Hcr] <;> iassumption
  ihave Hil := (in_all (F := F) .l (by decide) c) $$ [Hyl Hcl Hal]
  · isplitl [Hyl]; · iexact Hyl
    isplitl [Hcl] <;> iassumption
  ihave Hor := (out_all (F := F) .r c) $$ [Hhr Htr]
  · isplitl [Hhr] <;> iassumption
  ihave Hol := (out_all (F := F) .l c) $$ [Hhl Htl]
  · isplitl [Hhl] <;> iassumption
  ihave Hox := (out_all (F := F) .x c) $$ [Hhx Htx]
  · isplitl [Hhx] <;> iassumption
  ihave Hn := (show anyBuf (F := F) (srcM .x) c ⊢ _ from by unfold anyBuf; exact blocks_of (srcM .x) (src_set .x) c) $$ Hn
  ihave H := (wp_work m ρ K c Q) $$ [Hir Hil Hor Hol Hox Hn Ho Hs Hf HO Hcx Hax Hsr Hsl Hsx]
  · isplitr; · iexact Hctx
    isplitl [Hir Hil Hor Hol Hox Hn]
    · unfold Fresh
      simp only [bigSep_sep']
      isplitl [Hir Hor]
      · isplitl [Hir] <;> iassumption
      isplitl [Hil Hol]
      · isplitl [Hil] <;> iassumption
      isplitl [Hn]; · iexact Hn
      iexact Hox
    isplitl [Ho]; · iexact Ho
    isplitl [Hs]; · iexact Hs
    isplitl [Hf]; · iexact Hf
    isplitl [HO]; · iexact HO
    isplitl [Hcx Hax]
    · rw [bigSep_sep']
      isplitl [Hcx]
      · iapply (Entails.of_eq (bigSep_congr fun b _ => incred_x (F := F) c b)) $$ Hcx
      iexact Hax
    simp only [bigSep_sep']
    isplitl [Hsr]; · iexact Hsr
    isplitl [Hsl] <;> iassumption
  iapply H
  unfold Drained
  simp only [bigSep_sep']
  iintro ⟨Ho, Hs, Hf, HO, ⟨Hbx, Hvx⟩, ⟨Hbr, Hbl, Hbn⟩, ⟨Hsr, Hsl, Hsx⟩, Hvr, Hvl⟩
  ihave HV := (Entails.of_eq (bigSep_CK fun k => over m ρ (kcell (c, k))).symm) $$ [Hab Hsr Hsl Hsx Hvr Hvl Hvx]
  · isplitl [Hab]; · iexact Hab
    isplitl [Hsr Hsl Hsx]
    · isplitl [Hsr]; · iexact Hsr
      isplitl [Hsl] <;> iassumption
    isplitl [Hvr]; · iexact Hvr
    isplitl [Hvl] <;> iassumption
  imod (close_all m ρ K c) $$ [HV] with HV
  · isplitr; · iexact Hctx
    iexact HV
  imodintro
  iapply Hk
  unfold Bufs
  isplitl [Ho Hbr Hbl Hbn Hbx]
  · isplitl [Ho]
    · unfold oHeld anyBuf; iexists _; iexact Ho
    isplitl [Hbr]; · iapply (show bigSep Finset.univ (blkAny (F := F) (srcM .r) c) ⊢ anyBuf (F := F) (dstM .r) c from whole_of (dstM .r) (dst_set .r) c (m _)) $$ Hbr
    isplitl [Hbl]; · iapply (show bigSep Finset.univ (blkAny (F := F) (srcM .l) c) ⊢ anyBuf (F := F) (dstM .l) c from whole_of (dstM .l) (dst_set .l) c (m _)) $$ Hbl
    isplitl [Hbn]; · iapply (show _ ⊢ anyBuf (F := F) (srcM .x) c from whole_of (srcM .x) (src_set .x) c (m _)) $$ Hbn
    iapply (show _ ⊢ anyBuf (F := F) (dstM .x) c from whole_of (dstM .x) (dst_set .x) c (m _)) $$ Hbx
  isplitl [HV]; · iexact HV
  isplitl [Hs]; · iexact Hs
  isplitl [Hf] <;> iassumption

/-- The whole run. -/
theorem wp_body (K : Dev nD × CK → ℕ) (c : Dev nD) (Q : PUnit → sProp 𝕄) :
    BodyIn m ρ K c ⊢ iprop((BodyOut m ρ c -∗ Q ⟨⟩) -∗ WP c (body c) Q) := by
  unfold BodyIn BodyOut Toks Bufs O₀ body
  rw [bigSep_sep', bigSep_Ch fun ch => SigTok ch c]
  simp only [signal_up, signal_down]
  iintro ⟨#Hctx, Hcells, ⟨⟨Htr, Htl, Htx⟩, Hto⟩, Hcreds, ⟨Hbo, Hbr, Hbl, Hbn, Hbx⟩, Hp, Hs, Hg, Hf, HO⟩ Hk
  ihave Hbr := (show anyBuf (F := F) (dstM .r) c ⊢ _ from by unfold anyBuf; exact blocks_of (dstM .r) (dst_set .r) c) $$ Hbr
  ihave Hbl := (show anyBuf (F := F) (dstM .l) c ⊢ _ from by unfold anyBuf; exact blocks_of (dstM .l) (dst_set .l) c) $$ Hbl
  ihave Hbx := (show anyBuf (F := F) (dstM .x) c ⊢ _ from by unfold anyBuf; exact blocks_of (dstM .x) (dst_set .x) c) $$ Hbx
  ihave H := (wp_signalOn m ρ K .r c (owed c (order c) + sigT .x c + sigT .l c) _ Q) $$ [Htr Hbr HO]
  · isplitr; · iexact Hctx
    isplitl [Htr]; · iexact Htr
    isplitl [Hbr] <;> iassumption
  iapply H
  iintro ⟨Hyr, HO⟩
  ihave H := (wp_signalOn m ρ K .l c (owed c (order c) + sigT .x c) _ Q) $$ [Htl Hbl HO]
  · isplitr; · iexact Hctx
    isplitl [Htl]; · iexact Htl
    isplitl [Hbl] <;> iassumption
  iapply H
  iintro ⟨Hyl, HO⟩
  rw [signal_across]
  ihave H := (wp_signalOn m ρ K .x c (owed c (order c)) _ Q) $$ [Htx Hbx HO]
  · isplitr; · iexact Hctx
    isplitl [Htx]; · iexact Htx
    isplitl [Hbx] <;> iassumption
  iapply H
  iintro ⟨-, HO⟩
  ihave H := (wp_fill m ρ c _ Q) $$ [Hp Hbo]
  · isplitl [Hp] <;> iassumption
  iapply H
  iintro ⟨Hp, Ho⟩
  iapply (wp_gamma m ρ c) $$ Hg
  iintro Hg
  ihave H := (wp_rest m ρ K c Q) $$ [Hcells Hto Hcreds Hyr Hyl Hbn Ho Hs Hf HO]
  · isplitr; · iexact Hctx
    isplitl [Hcells]; · iexact Hcells
    isplitl [Hto]; · iexact Hto
    isplitl [Hcreds]; · iexact Hcreds
    isplitl [Hyr Hyl]
    · isplitl [Hyr] <;> iassumption
    isplitl [Hbn]; · iexact Hbn
    isplitl [Ho]; · iexact Ho
    isplitl [Hs]; · iexact Hs
    isplitl [Hf] <;> iassumption
  unfold gV
  iapply H
  unfold Bufs
  iintro ⟨HB, HV, Hs, Hf, HO⟩
  iapply Hk
  isplitl [HB]; · iexact HB
  isplitl [HV]; · iexact HV
  isplitl [Hp]; · iexact Hp
  isplitl [Hs]; · iexact Hs
  isplitl [Hg]; · iexact Hg
  isplitl [Hf] <;> iassumption

end Cert.KernelIdeal.Body

end
-- ==== Proof.KernelIdeal.Launch.lean ====
/-
The launch: the devices' resources dealt out, the whole mesh run, and what every device's result holds at the end.
-/
module

public import proofs.«01_k».proof.Proof.KernelIdeal.Device
public import Idealize.ShloMosaic.Lib.Pipeline.CollectiveSegs
public import Idealize.ShloMosaic.Lib.Pipeline.ValueKit.Geometry

@[expose] public section

set_option maxRecDepth 40000

noncomputable section

namespace Cert.KernelIdeal.Body

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- Row `r`, column `q` of 32 rows, -/
def rowIx (r : Fin 32) (q : Fin 1024) : S32x1024.Idx := fun | 0 => r | 1 => q
/-- and of the whole result. -/
def outIx (r : Fin 1024) (q : Fin 1024) : S1024x1024.Idx := fun | 0 => r | 1 => q

/-- The block of its half a row lies in, and its place there. -/
def blkOf (r : Fin 1024) : Fin 16 := ⟨r.val % 512 / 32, by omega⟩
/-- The place of a row in its block. -/
def offOf (r : Fin 1024) : Fin 32 := ⟨r.val % 32, by omega⟩

/-- The result of device `c`: the rows of its half as it finishes them, the others as the device across sends them. -/
def outAt (c : Dev nD) (r q : Fin 1024) : F .f32 :=
  if r.val / 512 = xOf c then nB m ρ c (blkOf r) (rowIx (offOf r) q)
  else wideP (srcV m ρ .x (across c) (blkOf r)) (rowIx (offOf r) q)
/-- The whole result of a device. -/
def outF (c : Dev nD) : (cc0_stg3_0 : Ref sig .tc).ty.Contents (Elt F) := fun i => outAt m ρ c (i 0) (i 1)

/-- Rows of the result at a place. -/
theorem get_at (c : Dev nD) (o : ℕ) (h : o + 32 ≤ 1024) (f : Buf (Elt F) (outM.view.loc (c : Thread nD τ))) (r : Fin 32) (q : Fin 1024) (r' : Fin 1024)
    (e : r'.val = o + r.val) : getRows c o h f (rowIx r q) = (show (cc0_stg3_0 : Ref sig .tc).ty.Contents (Elt F) from f) (outIx r' q) := by
  refine congrArg (show (cc0_stg3_0 : Ref sig .tc).ty.Contents (Elt F) from f) (funext fun a => Fin.ext ?_)
  refine (ValueKit.view_emb_slice_whole_unit_val cc0_stg3_0 ![o, 0] S32x1024.size (rows_inb h) (rowIx r q) a).trans ?_
  fin_cases a
  · exact e.symm
  · exact Nat.zero_add _

/-- A complete result is that one. -/
theorem all_rows (c : Dev nD) (f : Buf (Elt F) (outM.view.loc (c : Thread nD τ))) (h : AllRows m ρ c [] f) :
    (show (cc0_stg3_0 : Ref sig .tc).ty.Contents (Elt F) from f) = outF m ρ c := by
  have hx : xOf c < 2 := by have := c.isLt; change c.val < 32 at this; unfold xOf; omega
  funext i
  obtain ⟨h1, h2⟩ := h
  have hi : i = outIx (i 0) (i 1) := by funext a; fin_cases a <;> rfl
  have hr : (i 0).val < 1024 := (i 0).isLt
  rw [hi]
  show _ = outAt m ρ c (i 0) (i 1)
  unfold outAt
  by_cases he : (i 0).val / 512 = xOf c
  · rw [if_pos he, ← h1 (blkOf (i 0)), get_at c _ _ f (offOf (i 0)) (i 1) (i 0)]
    show (i 0).val = 512 * xOf c + 32 * ((i 0).val % 512 / 32) + (i 0).val % 32
    omega
  · rw [if_neg he, ← h2 (blkOf (i 0)) (List.not_mem_nil), get_at c _ _ f (offOf (i 0)) (i 1) (i 0)]
    show (i 0).val = 512 * (1 - xOf c) + 32 * ((i 0).val % 512 / 32) + (i 0).val % 32
    omega

/-! ## The proof data -/

/-- What a device's body starts from beside its buffers: what all know, its tokens, cells and credits; -/
def start (c : Dev nD) : sProp 𝕄 := iprop((∃ K, ctx m ρ K) ∗ (Cells c ∗ Toks c) ∗ Creds c)
/-- What a device's body starts from. -/
def Φ₀ (c : Dev nD) : sProp 𝕄 := iprop(start m ρ c ∗ Bufs c)
/-- after it, the buffers and every counter at zero. -/
def Φ₁ (c : Dev nD) : sProp 𝕄 := iprop(Bufs c ∗ bigSep Finset.univ fun k : CK => semVal (kcell (c, k)) 0)

/-- What each window holds before and after the body, and what the device owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => parW m ρ c
    | ⟨1, _⟩ => resW m ρ c
    | ⟨2, _⟩ => gamW m ρ c
    | ⟨3, _⟩ => outF m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The arguments are fetched. -/
theorem fetch_in (w : Fin cfg0.W) (hw : w.val < 3) (t : Fin cfg0.N) : (cfg0.win w).fetch t = true := by
  rw [fin_N0 t]; fin_cases w
  · rfl
  · rfl
  · rfl
  · exact absurd hw (by decide)
/-- A staging buffer held, as its place held. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer with the contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body is given, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
/-- and what it gives back. -/
def bodyPost (c : Dev nD) : sProp 𝕄 :=
  iprop(Φ₁ c ∗ (dats m ρ 0 c).owesAt () t0_0.succ ∗ stg c cc0_stg0_0 (parW m ρ c) ∗ stg c cc0_stg1_0 (resW m ρ c)
    ∗ stg c cc0_stg2_0 (gamW m ρ c) ∗ stg c cc0_stg3_0 (outF m ρ c))

/-- The arguments as they are staged. -/
theorem before_0 (c : Dev nD) (d) : (dats m ρ 0 c).before (0 : Fin 4) t0_0 d = parW m ρ c := by
  unfold Dat.before; rw [if_pos (fetch_in 0 (by decide) t0_0)]; rfl
theorem before_1 (c : Dev nD) (d) : (dats m ρ 0 c).before (1 : Fin 4) t0_0 d = resW m ρ c := by
  unfold Dat.before; rw [if_pos (fetch_in 1 (by decide) t0_0)]; rfl
theorem before_2 (c : Dev nD) (d) : (dats m ρ 0 c).before (2 : Fin 4) t0_0 d = gamW m ρ c := by
  unfold Dat.before; rw [if_pos (fetch_in 2 (by decide) t0_0)]; rfl

/-- The body's run, from the one to the other. -/
theorem sound_body (c : Dev nD) : bodyPre m ρ c ⊢ WP c (body c) fun _ => bodyPost m ρ c := by
  unfold bodyPre Φ₀ start
  simp only [before_0, before_1, before_2]
  unfold Dat.owesAt Pipeline.owesWithin
  iintro ⟨⟨⟨⟨%K, #Hctx⟩, ⟨Hcells, Htoks⟩, Hcreds⟩, HB⟩, ⟨%W, -, HO⟩, ⟨%d0, %f0, %e0, Hp⟩, ⟨%d1, %f1, %e1, Hs⟩, ⟨%d2, %f2, %e2, Hg⟩, ⟨%d3, %f3, -, Ho⟩⟩
  subst e0; subst e1; subst e2
  ihave H := (wp_body m ρ K c fun _ => bodyPost m ρ c) $$ [Hcells Htoks Hcreds HB Hp Hs Hg Ho HO]
  · unfold BodyIn
    isplitr; · iexact Hctx
    isplitl [Hcells]; · iexact Hcells
    isplitl [Htoks]; · iexact Htoks
    isplitl [Hcreds]; · iexact Hcreds
    isplitl [HB]; · iexact HB
    isplitl [Hp]; · unfold pHeld; iexact Hp
    isplitl [Hs]; · unfold sHeld; iexact Hs
    isplitl [Hg]; · unfold gHeld; iexact Hg
    isplitl [Ho]; · iexists f3; unfold outHeld; iexact Ho
    unfold ow; iexists W; iexact HO
  iapply H
  unfold BodyOut bodyPost Φ₁ Dat.owesAt Pipeline.owesWithin
  iintro ⟨HB, HV, Hp, Hs, Hg, ⟨%f, %hf, Ho⟩, HO⟩
  isplitl [HB HV]
  · isplitl [HB] <;> iassumption
  isplitl [HO]
  · unfold ow
    icases HO with ⟨%W', HO⟩
    iexists W'
    isplitr; · ipureintro; exact fun _ _ => Or.inl trivial
    iexact HO
  isplitl [Hp]
  · iexists _; isplitr; · (ipureintro; rfl)
    unfold pHeld; iexact Hp
  isplitl [Hs]
  · iexists _; isplitr; · (ipureintro; rfl)
    unfold sHeld; iexact Hs
  isplitl [Hg]
  · iexists _; isplitr; · (ipureintro; rfl)
    unfold gHeld; iexact Hg
  iexists f
  isplitr; · ipureintro; exact all_rows m ρ c f hf
  unfold outHeld; iexact Ho

/-- The printed body is the one run. -/
theorem wp_whole (c : Dev nD) (Q : PUnit → sProp 𝕄) : WP c (body c) Q ⊢ WP c (bodyAt0 t0_0) Q := by
  rw [body_op]
  unfold WP
  rw [wp_deviceId]
  show WP c (body c) Q ⊢ WP c (afterId (bodyAt0 t0_0) c) Q
  rw [body_eq]

/-- So the printed body keeps its side of the launch. -/
theorem body_obligation (c : Dev nD) : BodyObligation (dats (F := F) m ρ 0 c) (defs₀ (F := F)) 𝒱₀ () Set.univ := fun t => by
  rw [fin_N0 t]
  rw [bigSep_W0, bigSep_W0]
  simp only [owns_stage]
  show bodyPre m ρ c ⊢ WP c (bodyAt0 t0_0) (fun _ => bodyPost m ρ c)
  exact (sound_body m ρ c).trans (wp_whole c _)

/-! ## The dealing -/

/-- The kernel has these semaphores to itself. -/
theorem ownSemFacts : Pipeline.OwnSemFacts cfg0.spec osem where
  isScoped := by
    have : ∀ k : Bool × Ch × Fin 16, (osem k).isScoped .tc = true := by decide +kernel
    exact this
  inj := osem_injective
  disj := by
    have : ∀ (k : Bool × Ch × Fin 16) (w : Fin cfg0.W) (s : Fin (cfg0.spec w).nbuf), osem k ≠ .dma ((cfg0.spec w).sem s) := by decide +kernel
    exact this

/-- Every window is held whole. -/
theorem share_eq (c : Dev nD) (w : Fin cfg0.W) : (dats m ρ 0 c).share w = fullShare := by unfold Dat.share; split <;> rfl

/-- All the cells, -/
def meshCells : Finset (GSem nD τ sig) := Finset.univ.map ⟨kcell, kcell_injective⟩
/-- and their tokens: each cell's for every channel. -/
def tokOf (x : (Dev nD × CK) × Ch) : GSem nD τ sig × ℕ × Ch := (kcell x.1, 0, x.2)
/-- Each payment has its own token. -/
theorem tokOf_injective : Function.Injective tokOf := fun x y h =>
  Prod.ext (kcell_injective (congrArg Prod.fst h)) (congrArg (fun z : GSem nD τ sig × ℕ × Ch => z.2.2) h)
/-- The tokens of all payments. -/
def meshToks : Finset (GSem nD τ sig × ℕ × Ch) := Finset.univ.map ⟨tokOf, tokOf_injective⟩

/-- The ghost state at the launch. -/
def u₀ : UU := (initOf (Pipeline.cells cfgs cellOf_inj) (Pipeline.launchToks cfgs cellOf_inj), initOf meshCells meshToks)

/-- The tokens of a device's own cells. -/
def minted (c : Dev nD) : sProp 𝕄 := bigSep Finset.univ fun k : CK => bigSep Finset.univ fun ch : Ch => dutyTok ER (kcell (c, k)) 0 ch
/-- What a device is dealt at first, -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ minted c)
/-- what every cell's state has become once its invariant stands, -/
def Records (K : Dev nD × CK → ℕ) : sProp 𝕄 :=
  iprop((bigSep Finset.univ fun ck : Dev nD × CK => cellInv ER (Rd m ρ) (K ck) (kcell ck)) ∗ bigSep Finset.univ fun ck : Dev nD × CK => reached ER (kcell ck) 0)
instance records_persistent (K : Dev nD × CK → ℕ) : BI.Persistent (Records m ρ K) := by unfold Records; infer_instance
/-- and what a device has after the exchange. -/
def G' (c : Dev nD) : sProp 𝕄 := iprop((∃ K, Records m ρ K) ∗ Cells c ∗ Toks c)

/-- Over all semaphores is over all devices and names. -/
theorem over_mesh (Φ : GSem nD τ sig → sProp 𝕄) : bigSep meshCells Φ = bigSep Finset.univ fun c : Dev nD => bigSep Finset.univ fun k : CK => Φ (kcell (c, k)) := by
  unfold meshCells; rw [bigSep_map, bigSep_univ_prod]; rfl
/-- The tokens, by the device they belong to. -/
theorem over_toks : bigSep meshToks (fun x => (dutyTok ER x.1 x.2.1 x.2.2 : sProp 𝕄)) = bigSep Finset.univ fun c : Dev nD => minted c := by
  unfold meshToks; rw [bigSep_map, bigSep_univ_prod, bigSep_univ_prod]; rfl

/-- The ghost state dealt to the devices. -/
theorem fund_mesh : BI.own (ER (initOf meshCells meshToks)) ⊢ (|==> bigSep Finset.univ (G m ρ) : sProp 𝕄) := by
  iintro HX
  imod (Rounds.fund ER (Rd m ρ) meshCells meshToks) $$ HX with ⟨Hst, Hr, Hat, Htok⟩
  imodintro
  ihave Hst := (Entails.of_eq (over_mesh fun g => roundState ER (Rd m ρ) g 0)) $$ Hst
  ihave Hat := (Entails.of_eq (over_mesh fun g => atPos ER g 0 ∅ 0)) $$ Hat
  ihave Hr := (Entails.of_eq (over_mesh fun g => reached ER g 0)) $$ Hr
  ihave Htok := (Entails.of_eq over_toks) $$ Htok
  unfold G; simp only [bigSep_sep']
  isplitl [Hst]; · iexact Hst
  isplitl [Hat Hr]
  · isplitl [Hat] <;> iassumption
  iexact Htok

/-- All semaphores of a device are at zero at the start. -/
theorem sems_zero (c : Dev nD) :
    iprop(unscopedSems0 c ∗ Pipeline.ownSems0 (Ix := Unit) (Name := ℕ) (U := UU) (Lvl := ℕ) (Val := Elt F) (τ := τ) osem c)
      = (bigSep Finset.univ fun k : CK => semVal (kcell (c, k)) 0 : sProp 𝕄) := by
  rw [bigSep_univ_at _ (none : CK), show (Finset.univ.erase (none : CK)) = Finset.univ.map ⟨some, Option.some_injective _⟩ from by
    ext k; cases k <;> simp, bigSep_map]
  unfold unscopedSems0 Pipeline.ownSems0
  rw [bigSep_eq_bigSepL_of_eq [SemLoc.reg barS] (by decide +kernel) (by decide)]
  rfl

/-- A device's semaphores put under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ minted c) := by
  unfold G
  iintro ⟨Hos, Hus, Hst, Hat, Htok⟩
  ihave Hv := (Entails.of_eq (sems_zero (F := F) c)) $$ [Hos Hus]
  · isplitl [Hus] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The exchange of tokens -/

/-- A channel's tokens at the cells of the device that owns them: the barrier's, the sent, the received. -/
def Owned (ch : Ch) (c : Dev nD) : sProp 𝕄 :=
  iprop(dutyTok ER (bar c) 0 ch ∗ (bigSep Finset.univ fun b => dutyTok ER (snd ch b c) 0 ch) ∗ bigSep Finset.univ fun b => dutyTok ER (rcv ch b c) 0 ch)

/-- The tokens of a device, by channel. -/
theorem minted_owned (c : Dev nD) : minted c ⊢ (bigSep Finset.univ fun ch => Owned ch c : sProp 𝕄) := by
  unfold minted Owned
  simp only [bigSep_CK, bigSep_Ch]
  simp only [bigSep_sep']
  iintro ⟨⟨H0, H1, H2⟩, ⟨⟨Ha, -, -⟩, ⟨-, Hb, -⟩, ⟨-, -, Hc⟩⟩, ⟨Hd, -, -⟩, ⟨-, He, -⟩, ⟨-, -, Hf⟩⟩
  isplitl [H0 Ha Hd]
  · isplitl [H0]; · iexact H0
    isplitl [Ha] <;> iassumption
  isplitl [H1 Hb He]
  · isplitl [H1]; · iexact H1
    isplitl [Hb] <;> iassumption
  isplitl [H2]; · iexact H2
  isplitl [Hc] <;> iassumption

/-- A token for a signal, and those for copies, as the device that pays uses them. -/
theorem sig_dealt (ch : Ch) (c : Dev nD) : dutyTok ER (bar (from' ch c)) 0 ch ⊢ (SigTok ch c : sProp 𝕄) := by
  unfold SigTok
  split
  · iintro -; iempintro
  · iintro H; iexact H
theorem out_dealt (ch : Ch) (c : Dev nD) :
    iprop((bigSep Finset.univ fun b => dutyTok ER (snd ch b c) 0 ch) ∗ bigSep Finset.univ fun b => dutyTok ER (rcv ch b (dest ch c)) 0 ch)
      ⊢ (bigSep Finset.univ fun b => OutTok ch c b : sProp 𝕄) := by
  rw [← bigSep_sep']
  refine BI.bigSep_mono fun b _ => ?_
  unfold OutTok
  split
  · exact (show _ ⊢ (emp : sProp 𝕄) by iintro -; iempintro)
  · exact BI.Entails.refl _

/-- A channel's tokens handed to the devices that use them. -/
theorem channel_around (ch : Ch) :
    (bigSep Finset.univ fun c => Owned ch c : sProp 𝕄) ⊢ bigSep Finset.univ fun c => iprop(SigTok ch c ∗ bigSep Finset.univ fun b => OutTok ch c b) := by
  unfold Owned
  rw [bigSep_sep', bigSep_sep', bigSep_sep',
    bigSep_univ_equiv (destE ch).symm (fun c : Dev nD => (dutyTok ER (bar c) 0 ch : sProp 𝕄)),
    bigSep_univ_equiv (destE ch) (fun c : Dev nD => (bigSep Finset.univ fun b => dutyTok ER (rcv ch b c) 0 ch : sProp 𝕄)), ← bigSep_sep']
  iintro ⟨H1, H2⟩
  isplitl [H1]
  · iapply (show (bigSep Finset.univ fun c : Dev nD => (dutyTok ER (bar ((destE ch).symm c)) 0 ch : sProp 𝕄)) ⊢ bigSep Finset.univ fun c => SigTok ch c from
      BI.bigSep_mono fun c _ => sig_dealt ch c) $$ H1
  · iapply (show (bigSep Finset.univ fun c : Dev nD => iprop((bigSep Finset.univ fun b => dutyTok ER (snd ch b c) 0 ch)
        ∗ bigSep Finset.univ fun b => dutyTok ER (rcv ch b ((destE ch) c)) 0 ch) : sProp 𝕄) ⊢ bigSep Finset.univ fun c => bigSep Finset.univ fun b => OutTok ch c b from
      BI.bigSep_mono fun c _ => out_dealt ch c) $$ H2

/-- Each device gets the tokens of what it pays. -/
theorem toks_around : (bigSep Finset.univ fun c : Dev nD => (minted c : sProp 𝕄)) ⊢ bigSep Finset.univ fun c : Dev nD => Toks c := by
  unfold Toks
  rw [BI.bigSep_univ_comm (fun (c : Dev nD) (ch : Ch) => iprop(SigTok ch c ∗ bigSep Finset.univ fun b => (OutTok ch c b : sProp 𝕄)))]
  refine BI.Entails.trans (BI.bigSep_mono fun c _ => minted_owned c) ?_
  rw [BI.bigSep_univ_comm (fun (c : Dev nD) (ch : Ch) => (Owned ch c : sProp 𝕄))]
  exact BI.bigSep_mono fun ch _ => channel_around ch

/-- What a device has of the records and tokens. -/
theorem dealt (K : Dev nD × CK → ℕ) (c : Dev nD) : iprop(Records m ρ K ∗ (Cells c ∗ Toks c)) ⊢ G' m ρ c := by
  unfold G'
  iintro ⟨HR, H⟩
  isplitl [HR]; · iexists K; iexact HR
  iexact H

/-- The invariants shared, the tokens dealt. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ minted c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (show iprop(Records m ρ K ∗ bigSep Finset.univ fun c => iprop(Cells c ∗ Toks c)) ⊢ bigSep Finset.univ (G' m ρ) from
    BI.bigSep_with_persistent fun c _ => dealt m ρ K c)
  isplitr
  · unfold Records; isplitl; · iexact HI
    iexact HR
  · rw [bigSep_sep']
    isplitl [Hat]; · unfold Cells; iexact Hat
    iexact Htk

/-- The set-up of all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The credits -/

/-- A barrier is no semaphore of received blocks. -/
theorem bar_ne_rcv {ch : Ch} {b : Fin 16} {c c' : Dev nD} (h : bar c = rcv ch b c') : False :=
  nomatch congrArg Prod.snd (kcell_injective h)

/-- What is owed to a semaphore for one copy. -/
theorem sendT_at (ch ch' : Ch) (b b' : Fin 16) (d : Dev nD) :
    sendT ch' d b' (rcv ch b (dest ch d)) () = if lastOf ch' d = false ∧ (ch', b') = (ch, b) then N else 0 := by
  unfold sendT
  by_cases hl : lastOf ch' d = true
  · rw [if_pos hl, if_neg fun h => by rw [hl] at h; exact nomatch h.1]; rfl
  · rw [if_neg hl, tallyAt_apply]
    by_cases he : (ch', b') = (ch, b)
    · obtain ⟨rfl, rfl⟩ := Prod.mk.inj he
      rw [if_pos ⟨rfl, rfl⟩, if_pos ⟨by simpa using hl, rfl⟩]
    · rw [if_neg fun h => he ?_, if_neg fun h => he h.2]
      have h2 := congrArg Prod.snd (kcell_injective h.1)
      have h3 := congrArg Prod.snd (Option.some.inj h2)
      exact h3.symm

/-- What is owed to a receive cell: one copy's credit for every time it is paid. -/
theorem owed_at (ch : Ch) (b : Fin 16) (d : Dev nD) :
    ∀ es, owed d es (rcv ch b (dest ch d)) () = N * (pays d es).countP (· == (ch, b))
  | [] => rfl
  | .inl b' :: es => by
    unfold owed pays
    rw [Pi.add_apply, Finsupp.add_apply, owed_at ch b d es, sendT_at, List.countP_append]
    by_cases hl : lastOf (lead d) d = true
    · simp [hl]
    · by_cases he : (lead d, b') = (ch, b) <;> simp [hl, he, Nat.mul_add, Nat.add_comm]
  | .inr b' :: es => by
    unfold owed pays
    rw [Pi.add_apply, Finsupp.add_apply, Pi.add_apply, Finsupp.add_apply, owed_at ch b d es, sendT_at, sendT_at, List.countP_append, List.countP_cons]
    have hx : lastOf .x d = false := rfl
    by_cases hl : lastOf (lag d) d = true
    · by_cases hy : (Ch.x, b') = (ch, b) <;> simp [hl, hx, hy, Nat.mul_add, Nat.add_comm]
    · by_cases he : (lag d, b') = (ch, b) <;> by_cases hy : (Ch.x, b') = (ch, b) <;>
        simp [hl, hx, he, hy, Nat.mul_add, Nat.add_comm, Nat.add_left_comm]
/-- In its order of work a device sends each block once. -/
theorem pays_once (ch : Ch) (b : Fin 16) (d : Dev nD) (h : lastOf ch d = false) : (pays d (order d)).countP (· == (ch, b)) = 1 := by
  have : ∀ (ch : Ch) (b : Fin 16) (d : Fin 32), lastOf ch d = false → (pays d (order d)).countP (· == (ch, b)) = 1 := by decide +kernel
  exact this ch b d h

/-- Signals pay no received block, -/
theorem sigT_rcv (ch ch' : Ch) (b : Fin 16) (c d : Dev nD) : sigT ch' d (rcv ch b c) () = 0 := by
  by_contra h
  exact bar_ne_rcv (sigT_pos (Nat.pos_of_ne_zero h)).symm
/-- copies pay only where they land, -/
theorem owed_elsewhere (ch : Ch) (b : Fin 16) (c d : Dev nD) (hd : c ≠ dest ch d) (es) : owed d es (rcv ch b c) () = 0 := by
  by_contra h
  obtain ⟨p, _, e⟩ := owed_pos d es (Nat.pos_of_ne_zero h)
  have e := kcell_injective e
  have e1 : c = dest p.1 d := congrArg Prod.fst e
  have e2 : (false, ch, b) = (false, p.1, p.2) := Option.some.inj (congrArg Prod.snd e)
  have e3 : ch = p.1 := congrArg (fun x : Bool × Ch × Fin 16 => x.2.1) e2
  exact hd (by rw [e3]; exact e1)
/-- and none pays a barrier. -/
theorem owed_bar (c d : Dev nD) (es) : owed d es (bar c) () = 0 := by
  by_contra h
  obtain ⟨p, _, e⟩ := owed_pos d es (Nat.pos_of_ne_zero h)
  exact bar_ne_rcv e

/-- What a device owes a semaphore at the start. -/
theorem O₀_apply (d : Dev nD) (g : GSem nD τ sig) : O₀ d g () = owed d (order d) g () + sigT .x d g () + sigT .l d g () + sigT .r d g () := rfl

/-- All devices together owe a received block its count, -/
theorem total_rcv (ch : Ch) (b : Fin 16) (c : Dev nD) (h : firstOf ch c = false) : ∑ d, O₀ d (rcv ch b c) () = N := by
  rw [Finset.sum_eq_single (from' ch c)]
  · rw [O₀_apply, sigT_rcv, sigT_rcv, sigT_rcv]
    have h2 := owed_at ch b (from' ch c) (order (from' ch c))
    rw [dest_from, pays_once ch b (from' ch c) ((last_from ch c).trans h)] at h2
    omega
  · intro d _ hd
    rw [O₀_apply, sigT_rcv, sigT_rcv, sigT_rcv, owed_elsewhere ch b c d fun e => hd (by rw [e, from_dest])]
    rfl
  · intro h; exact absurd (Finset.mem_univ _) h

/-- a channel owes a barrier one, unless the channel ends there, -/
theorem total_sig (ch : Ch) (c : Dev nD) : ∑ d, sigT ch d (bar c) () = if lastOf ch c then 0 else 1 := by
  rw [Finset.sum_eq_single (dest ch c)]
  · unfold sigT
    rw [first_dest, from_dest]
    by_cases hl : lastOf ch c = true
    · rw [if_pos hl, if_pos hl]; rfl
    · rw [if_neg hl, if_neg hl, tallyAt_apply, if_pos ⟨rfl, rfl⟩]
  · intro d _ hd
    by_contra h
    have e : c = from' ch d := congrArg Prod.fst (kcell_injective (sigT_pos (Nat.pos_of_ne_zero h)))
    exact hd (by rw [e, dest_from])
  · intro h; exact absurd (Finset.mem_univ _) h
/-- and all owe it one for each neighbour. -/
theorem total_bar (c : Dev nD) : ∑ d, O₀ d (bar c) () = degree c := by
  simp only [O₀_apply, owed_bar, Finset.sum_add_distrib, total_sig]
  have : ∀ c : Fin 32, (∑ d : Dev nD, 0) + (if lastOf .x c then 0 else 1) + (if lastOf .l c then 0 else 1) + (if lastOf .r c then 0 else 1) = degree c := by
    decide +kernel
  exact this c

/-- The credit of a semaphore is what is owed to it. -/
theorem launch_cell (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- So a device has the credit of each block it receives. -/
theorem in_credit (ch : Ch) (b : Fin 16) (c : Dev nD) :
    (cred (tallyOn (rcv ch b c) (launchCredit (Pipeline.owing O₀) 0 (rcv ch b c))) : sProp 𝕄) ⊢ InCred ch c b := by
  unfold InCred
  by_cases hf : firstOf ch c = true
  · rw [if_pos hf]; iintro -; iempintro
  · rw [if_neg hf, launch_cell _ _ (total_rcv ch b c (by simpa using hf))]

/-- Of a device's cells, the barrier and those that receive. -/
theorem credit_cells (Φ : GSem nD τ sig → sProp 𝕄) (c : Dev nD) :
    iprop(Φ (kcell (c, none)) ∗ ((bigSep Finset.univ fun b => Φ (kcell (c, some (true, .r, b)))) ∗ (bigSep Finset.univ fun b => Φ (kcell (c, some (true, .l, b))))
        ∗ (bigSep Finset.univ fun b => Φ (kcell (c, some (true, .x, b)))))
        ∗ ((bigSep Finset.univ fun b => Φ (kcell (c, some (false, .r, b)))) ∗ (bigSep Finset.univ fun b => Φ (kcell (c, some (false, .l, b))))
        ∗ (bigSep Finset.univ fun b => Φ (kcell (c, some (false, .x, b))))))
      ⊢ iprop(Φ (bar c) ∗ (bigSep Finset.univ fun b => Φ (rcv .r b c)) ∗ (bigSep Finset.univ fun b => Φ (rcv .l b c)) ∗ bigSep Finset.univ fun b => Φ (rcv .x b c)) := by
  iintro ⟨H0, -, H1, H2, H3⟩
  isplitl [H0]; · iexact H0
  isplitl [H1]; · iexact H1
  isplitl [H2] <;> iassumption

/-- The credits of a device. -/
theorem creds (c : Dev nD) : (Pipeline.launchCred O₀ c : sProp 𝕄) ⊢ Creds c := by
  unfold Pipeline.launchCred Creds
  refine BI.Entails.trans (bigSep_subset (Finset.subset_univ (Finset.univ.map ⟨csem, csem_injective⟩))) ?_
  rw [bigSep_map, bigSep_CK, bigSep_Ch]
  refine BI.Entails.trans (Q := iprop(cred (tallyOn (bar c) (launchCredit (Pipeline.owing O₀) 0 (bar c)))
      ∗ (bigSep Finset.univ fun b => cred (tallyOn (rcv .r b c) (launchCredit (Pipeline.owing O₀) 0 (rcv .r b c))))
      ∗ (bigSep Finset.univ fun b => cred (tallyOn (rcv .l b c) (launchCredit (Pipeline.owing O₀) 0 (rcv .l b c))))
      ∗ bigSep Finset.univ fun b => cred (tallyOn (rcv .x b c) (launchCredit (Pipeline.owing O₀) 0 (rcv .x b c))))) ?_ ?_
  · exact credit_cells (fun g => cred (tallyOn g (launchCredit (Pipeline.owing O₀) 0 g))) c
  · refine sep_mono ?_ (sep_mono (BI.bigSep_mono fun b _ => in_credit .r b c) (sep_mono (BI.bigSep_mono fun b _ => in_credit .l b c) (BI.bigSep_mono fun b _ => in_credit .x b c)))
    rw [← launch_cell (bar c) (degree c) (total_bar c)]

/-! ### What the launch asks -/

/-- What the launch gives is what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' Records ctx levs
  iintro ⟨-, #Hlev, Hcr, -, ⟨⟨%K, #HI, #HR⟩, HG⟩⟩
  ihave Hc := (creds (F := F) c) $$ Hcr
  imodintro
  isplitl
  · isplitr
    · iexists K
      isplitr; · iexact HI
      isplitr; · iexact HR
      iexact Hlev
    isplitl [HG]; · iexact HG
    iexact Hc
  · iempintro

/-- The kernel's own buffers. -/
theorem bufs_eq (c : Dev nD) : (Pipeline.scopedRest cfg0.spec c : sProp 𝕄) = Bufs c := by
  refine (scopedRest0_eq c).trans ?_
  unfold Bufs anyBuf
  rfl

/-- They join before the body, -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, bufs_eq]
  unfold Φ₀
  iintro ⟨Hs, -, Hr⟩
  isplitl [Hs] <;> iassumption

/-- and come back after it, every counter at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, bufs_eq]
  unfold Φ₁
  rw [← sems_zero]
  iintro ⟨Hr, Hu, Ho⟩
  isplitl [Hu]; · iexact Hu
  isplitl [Ho] <;> iassumption

/-- The staging semaphores are none of these. -/
theorem stage_sem (w : Fin cfg0.W) (s : Fin (cfg0.win w).nbuf) (k : CK) : csem k ≠ .dma ((cfg0.win w).sem s) := by
  cases k with
  | none => exact nofun
  | some k => exact ownSemFacts.disj k w s

/-- The staging waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem w s) _ (by
      rcases t with ⟨_ | _, ht⟩
      · exact Or.inl rfl
      · exact Or.inr rfl)

/-! ## The run -/

/-- What device `c`'s array of window `w` holds at the end. -/
def finalA (c : Dev nD) (w : Fin cfg0.W) : Buf (Elt F) ((cfg0.win w).arr.view.loc (c : Thread nD τ)) := (dats m ρ 0 c).arrAt w cfg0.N

/-- Every run of the mesh ends, with every counter at zero and every window's array at `finalA`. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Body

end
-- ==== Proof.KernelIdeal.Ends.lean ====
/-
What the run leaves: the arguments as they were, and every device's result.
-/
module

public import proofs.«01_k».proof.Proof.KernelIdeal.Launch

@[expose] public section

set_option maxRecDepth 40000

noncomputable section

namespace Cert.KernelIdeal.Body

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The arguments' arrays are never written. -/
theorem final_0 (c : Dev nD) : finalA m ρ c (0 : Fin 4) = m ((c : Thread nD τ).loc main_arg0) := (dats (F := F) m ρ 0 c).arrAt_in (0 : Fin 4) rfl _
theorem final_1 (c : Dev nD) : finalA m ρ c (1 : Fin 4) = m ((c : Thread nD τ).loc main_arg1) := (dats (F := F) m ρ 0 c).arrAt_in (1 : Fin 4) rfl _
theorem final_2 (c : Dev nD) : finalA m ρ c (2 : Fin 4) = m ((c : Thread nD τ).loc main_arg2) := (dats (F := F) m ρ 0 c).arrAt_in (2 : Fin 4) rfl _

/-- The result's array holds what the body leaves of it. -/
theorem final_3 (c : Dev nD) : finalA m ρ c (3 : Fin 4) = outF m ρ c := by
  refine (dats (F := F) m ρ 0 c).arrAt_eq_of_after_last (3 : Fin 4) t0_0 (by decide +kernel) _ fun j => ?_
  rfl

/-- Every run ends with the result of each device at `outF`, the arguments unchanged and every counter at zero. -/
theorem run_ends : θ_run defs (onTc (τ := τ) (main (F := F))) ⟨m, fun _ => 0, ρ⟩ (fun r =>
    (∀ c : Dev nD, r.2.mem ((c : Thread nD τ).loc main_v1) = outF m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨(h.1 c (3 : Fin 4)).trans (final_3 m ρ c), (h.1 c (0 : Fin 4)).trans (final_0 m ρ c),
    (h.1 c (1 : Fin 4)).trans (final_1 m ρ c), (h.1 c (2 : Fin 4)).trans (final_2 m ρ c)⟩, h.2⟩) (run_main m ρ)

end Cert.KernelIdeal.Body

end
-- ==== Proof.Math.Algebra.lean ====
/-
What the extended reals have to give: the sum of the four blocks taken the kernel's way, and a row divided by its
root mean square by either of the two ways.
-/
module

public import Idealize.ShloMosaic.PureOps.Ideal

@[expose] public section

noncomputable section

namespace Cert.Math

open Idealize.ShloMosaic

/-- Twice the same value, or two infinite ones. -/
def Agree (a b : EReal) : Prop := a = b ∨ ((a = ⊤ ∨ a = ⊥) ∧ (b = ⊤ ∨ b = ⊥))

/-- An infinite value stays infinite when something is added. -/
theorem inf_add {a : EReal} (h : a = ⊤ ∨ a = ⊥) (s : EReal) : a + s = ⊤ ∨ a + s = ⊥ := by
  rcases h with rfl | rfl
  · by_cases hs : s = ⊥
    · right; rw [hs, EReal.add_bot]
    · left; exact EReal.top_add_of_ne_bot hs
  · right; exact EReal.bot_add s

/-- Values that agree still do after an addition. -/
theorem Agree.add {a b : EReal} (h : Agree a b) (s : EReal) : Agree (a + s) (b + s) := by
  rcases h with rfl | ⟨ha, hb⟩
  · exact .inl rfl
  · exact .inr ⟨inf_add ha s, inf_add hb s⟩

/-- Taking a term away that is counted twice. -/
theorem agree_sub (t o : EReal) : Agree (((t + o) + o) - o) (t + o) := by
  induction o with
  | bot => right; exact ⟨.inr (by simp), .inr (by simp)⟩
  | top =>
    have h : t + ⊤ = ⊤ ∨ t + ⊤ = (⊥ : EReal) := by rw [add_comm]; exact inf_add (.inl rfl) t
    refine .inr ⟨.inr ?_, h⟩
    rw [sub_eq_add_neg, EReal.neg_top, EReal.add_bot]
  | coe x => exact .inl (EReal.add_sub_cancel_right ..)

/-- Squares do not tell values apart that agree. -/
theorem Agree.sq {a b : EReal} (h : Agree a b) : a * a = b * b := by
  rcases h with rfl | ⟨rfl | rfl, rfl | rfl⟩ <;> first | rfl | simp

/-- A square is not negative, of an infinite value either. -/
theorem sq_nonneg' (a : EReal) : 0 ≤ a * a := by
  induction a with
  | bot => simp
  | top => simp
  | coe x => rw [← EReal.coe_mul]; exact_mod_cast mul_self_nonneg x

/-- The mean of a sum of squares and a small positive number. -/
def meanOf (n e : EReal) (S : EReal) : EReal := Ideal.div S n + e

/-- Nor is its quotient by a positive number. -/
theorem div_nonneg' {S n : EReal} (hS : 0 ≤ S) (hn : 0 < n) : 0 ≤ Ideal.div S n := by
  unfold Ideal.div
  rw [if_neg hn.ne']
  exact mul_nonneg hS (EReal.inv_nonneg_of_nonneg hn.le)

/-- The mean is positive. -/
theorem meanOf_pos {S n e : EReal} (hS : 0 ≤ S) (hn : 0 < n) (he : 0 < e) : 0 < meanOf n e S :=
  lt_of_lt_of_le he (le_add_of_nonneg_left (div_nonneg' hS hn))

/-- It is infinite if the sum is. -/
theorem meanOf_top {e : EReal} {n : ℝ} (hn : 0 < n) (he : 0 < e) : meanOf (n : EReal) e ⊤ = ⊤ := by
  have hn' : (0 : EReal) < (n : EReal) := by exact_mod_cast hn
  unfold meanOf Ideal.div
  rw [if_neg hn'.ne', ← EReal.coe_inv, EReal.top_mul_coe_of_pos (inv_pos.2 hn), EReal.top_add_of_ne_bot (ne_of_gt (lt_trans EReal.bot_lt_zero he))]

/-- The roots at infinity and at a positive number. -/
theorem rsqrt_top : Ideal.rsqrt ⊤ = 0 := rfl
theorem sqrt_top : Ideal.sqrt ⊤ = ⊤ := rfl
theorem rsqrt_coe {x : ℝ} (hx : 0 < x) : Ideal.rsqrt (x : EReal) = ((Real.sqrt x)⁻¹ : ℝ) := by
  show (if x < 0 then (⊥ : EReal) else if x = 0 then ⊤ else (((Real.sqrt x)⁻¹ : ℝ) : EReal)) = _
  rw [if_neg (not_lt.2 hx.le), if_neg hx.ne']
theorem sqrt_coe {x : ℝ} (hx : 0 < x) : Ideal.sqrt (x : EReal) = (Real.sqrt x : ℝ) := by
  show (if x < 0 then (⊥ : EReal) else ((Real.sqrt x : ℝ) : EReal)) = _
  rw [if_neg (not_lt.2 hx.le)]

/-- Of a row whose mean is infinite nothing is left, by either way. -/
theorem mul_rsqrt_top (y z : EReal) : y * Ideal.rsqrt ⊤ = Ideal.div z (Ideal.sqrt ⊤) := by
  rw [rsqrt_top, sqrt_top]
  simp [Ideal.div]

/-- Dividing by the root is multiplying by the reciprocal of the root. -/
theorem mul_rsqrt {v : EReal} (hv : 0 < v) (y : EReal) : y * Ideal.rsqrt v = Ideal.div y (Ideal.sqrt v) := by
  induction v with
  | bot => exact absurd hv (by simp)
  | top => exact mul_rsqrt_top y y
  | coe x =>
    have hx : 0 < x := by exact_mod_cast hv
    have hs : ((Real.sqrt x : ℝ) : EReal) ≠ 0 := by exact_mod_cast (Real.sqrt_pos.2 hx).ne'
    rw [rsqrt_coe hx, sqrt_coe hx, Ideal.div, if_neg hs, EReal.coe_inv]

/-- A row's two normalisations: from values that agree they are equal. -/
theorem norm_row {ι : Type} [Fintype ι] (a b : ι → EReal) (h : ∀ k, Agree (a k) (b k)) {n : ℝ} (hn : 0 < n) {e : EReal} (he : 0 < e) (q : ι) :
    a q * Ideal.rsqrt (meanOf (n : EReal) e (∑ k, a k * a k)) = Ideal.div (b q) (Ideal.sqrt (meanOf (n : EReal) e (∑ k, b k * b k))) := by
  have hS : ∑ k, a k * a k = ∑ k, b k * b k := Finset.sum_congr rfl fun k _ => (h k).sq
  have h0 : 0 ≤ ∑ k, b k * b k := Finset.sum_nonneg fun k _ => sq_nonneg' _
  have hn' : (0 : EReal) < (n : EReal) := by exact_mod_cast hn
  rw [hS]
  rcases h q with e1 | ⟨_, hb⟩
  · rw [e1]; exact mul_rsqrt (meanOf_pos h0 hn' he) _
  · have hq : b q * b q = ⊤ := by rcases hb with e1 | e1 <;> rw [e1] <;> simp
    have ht : ∑ k, b k * b k = ⊤ := top_le_iff.1 (hq ▸ Finset.single_le_sum (f := fun k => b k * b k) (fun k _ => sq_nonneg' (b k)) (Finset.mem_univ q))
    rw [ht, meanOf_top hn he]; exact mul_rsqrt_top _ _

/-- The sum of the terms up to place `n`, and of the terms from place `3 - n`, each taken in the order of the places. -/
def sumUp (a : Fin 4 → EReal) : ℕ → EReal
  | 0 => a 0
  | n + 1 => sumUp a n + a (Fin.ofNat 4 (n + 1))
/-- The sum from the last place down to place `3 - n`. -/
def sumDown (a : Fin 4 → EReal) : ℕ → EReal
  | 0 => a 3
  | n + 1 => sumDown a n + a (Fin.ofNat 4 (3 - (n + 1)))

/-- The two sums at a place, together, have that place's term twice and every other once. -/
theorem sums_eq (a : Fin 4 → EReal) (y : Fin 4) : ∃ t, sumUp a y.val + sumDown a (3 - y.val) = (t + a y) + a y ∧ ∑ k, a k = t + a y := by
  rw [Fin.sum_univ_four]
  match y with
  | 0 => exact ⟨a 1 + a 2 + a 3, show a 0 + (a 3 + a 2 + a 1 + a 0) = _ by abel, by abel⟩
  | 1 => exact ⟨a 0 + a 2 + a 3, show (a 0 + a 1) + (a 3 + a 2 + a 1) = _ by abel, by abel⟩
  | 2 => exact ⟨a 0 + a 1 + a 3, show (a 0 + a 1 + a 2) + (a 3 + a 2) = _ by abel, by abel⟩
  | 3 => exact ⟨a 0 + a 1 + a 2, show (a 0 + a 1 + a 2 + a 3) + a 3 = _ by abel, by abel⟩

/-- So they agree with the whole sum when one is taken away, whatever is added then. -/
theorem column (a : Fin 4 → EReal) (s : EReal) (y : Fin 4) :
    Agree (sumUp a y.val + sumDown a (3 - y.val) - a y + s) ((∑ k, a k) + s) := by
  obtain ⟨t, e1, e2⟩ := sums_eq a y
  rw [e1, e2]; exact (agree_sub t (a y)).add s

end Cert.Math

end
-- ==== Proof.KernelIdeal.Read.lean ====
/-
The kernel's values read at an index, over the extended reals.
-/
module

public import proofs.«01_k».proof.Proof.KernelIdeal.Ends
public import proofs.«01_k».proof.Proof.Math.Algebra
public import Idealize.ShloMosaic.Lib.Pointwise

@[expose] public section

set_option maxRecDepth 40000

noncomputable section

namespace Cert.KernelIdeal.Body

open Cert.KernelIdeal Cert.KernelIdeal.Gen
open Idealize.ShloMosaic
open Idealize.ShloMosaic.TcCoe
open Idealize.SL.Sem

variable (m : (ℓ : Loc nD τ sig) → Buf (Elt Ideal) ℓ) (ρ : Dev nD → PrngReg)

/-- A device's three arguments at an index. -/
def parAt (c : Dev nD) (r q : Fin 1024) : EReal := (show FVec Ideal S1x1024x1024 .bf16 from m ((c : Thread nD τ).loc main_arg0)) (ix3 0 r q)
def resAt (c : Dev nD) (r q : Fin 1024) : EReal := (show FVec Ideal S1024x1024 .bf16 from m ((c : Thread nD τ).loc main_arg1)) (ix2 r q)
def gamAt (c : Dev nD) (q : Fin 1024) : EReal := (show FVec Ideal S1024 .bf16 from m ((c : Thread nD τ).loc main_arg2)) (ix1 q)

/-- The row of the whole arrays that row `o` of block `b` is at device `c`. -/
def rowOf (c : Dev nD) (b : Fin 16) (o : Fin 32) : Fin 1024 :=
  ⟨512 * xOf c + 32 * b.val + o.val, by have := own_le c b; omega⟩

/-- What is staged of an argument is the argument. -/
theorem parW_eq (c : Dev nD) : parW m ρ c = m ((c : Thread nD τ).loc main_arg0) := by
  funext i
  exact congrArg (m ((c : Thread nD τ).loc main_arg0)) (funext fun a => Fin.ext (Pipeline.Window.rect_emb_val_of_index_zero win0_0 (0 : Fin 1) a (by fin_cases a <;> rfl) i))
theorem resW_eq (c : Dev nD) : resW m ρ c = m ((c : Thread nD τ).loc main_arg1) := by
  funext i
  exact congrArg (m ((c : Thread nD τ).loc main_arg1)) (funext fun a => Fin.ext (Pipeline.Window.rect_emb_val_of_index_zero win0_1 (0 : Fin 1) a (by fin_cases a <;> rfl) i))
theorem gamW_eq (c : Dev nD) : gamW m ρ c = m ((c : Thread nD τ).loc main_arg2) := by
  funext i
  exact congrArg (m ((c : Thread nD τ).loc main_arg2)) (funext fun a => Fin.ext (Pipeline.Window.rect_emb_val_of_index_zero win0_2 (0 : Fin 1) a (by fin_cases a <;> rfl) i))

/-- The device's own half at an index, and a block of it. -/
theorem oW_at (c : Dev nD) (b : Fin 16) (o : Fin 32) (q : Fin 1024) : oW m ρ c (ix3 b o q) = parAt m c (rowOf c b o) q := by
  unfold oW halfP
  pointwise
  rw [parW_eq]
  refine congrArg (m ((c : Thread nD τ).loc main_arg0)) (funext fun a => Fin.ext ?_)
  refine (ValueKit.view_emb_slice_whole_unit_val cc0_stg0_0 ![0, 512 * xOf c, 0] S1x512x1024.size (half_inb c) (ix3 0 ⟨b.val * 32 + o.val, by omega⟩ q) a).trans ?_
  fin_cases a
  · rfl
  · show 512 * xOf c + (b.val * 32 + o.val) = 512 * xOf c + 32 * b.val + o.val
    omega
  · exact Nat.zero_add _

theorem oB_at (c : Dev nD) (b : Fin 16) (o : Fin 32) (q : Fin 1024) : oB m ρ c b (ix3 0 o q) = parAt m c (rowOf c b o) q := by
  rw [← oW_at m ρ c b o q]
  refine congrArg (oW m ρ c) (funext fun a => Fin.ext ?_)
  refine (ValueKit.view_emb_slice_whole_unit_val cc0_scratch0 ![b.val, 0, 0] S1x32x1024.size (blk_inb b) (ix3 0 o q) a).trans ?_
  fin_cases a
  · rfl
  · exact Nat.zero_add _
  · exact Nat.zero_add _

/-- The residual rows and gamma at an index. -/
theorem sB_at (c : Dev nD) (b : Fin 16) (o : Fin 32) (q : Fin 1024) : sB m ρ c b (ix2 o q) = resAt m c (rowOf c b o) q := by
  unfold sB
  rw [resW_eq]
  refine congrArg (m ((c : Thread nD τ).loc main_arg1)) (funext fun a => Fin.ext ?_)
  refine (ValueKit.view_emb_slice_whole_unit_val cc0_stg1_0 ![512 * xOf c + 32 * b.val, 0] S32x1024.size (rows_inb (own_le c b)) (ix2 o q) a).trans ?_
  fin_cases a
  · rfl
  · exact Nat.zero_add _

theorem gV_at (c : Dev nD) (q : Fin 1024) : gV m ρ c (ix1 q) = gamAt m c q := by
  unfold gV gammaP
  pointwise
  rw [gamW_eq]
  refine congrArg (m ((c : Thread nD τ).loc main_arg2)) (funext fun a => Fin.ext ?_)
  refine (ValueKit.view_emb_slice_whole_unit_val cc0_stg2_0 ![0] S1024.size inb_S1024_S1024_0 (ix1 q) a).trans ?_
  fin_cases a
  exact Nat.zero_add _

/-- A running sum at an index. -/
def sumAt (prev : Dev nD → Dev nD) (b : Fin 16) (o : Fin 32) (q : Fin 1024) : ℕ → Dev nD → EReal
  | 0, c => parAt m c (rowOf c b o) q
  | n + 1, c => sumAt prev b o q n (prev c) + parAt m c (rowOf c b o) q

/-- The kernel adds up exactly that. -/
theorem run_at (prev : Dev nD → Dev nD) (b : Fin 16) (o : Fin 32) (q : Fin 1024) (n : ℕ) (c : Dev nD) :
    run m ρ prev b n c (ix3 0 o q) = sumAt m prev b o q n c := by
  induction n generalizing c with
  | zero =>
    unfold run sumAt copyP
    pointwise
    exact oB_at m ρ c b o q
  | succ n ih =>
    unfold run sumAt addP
    pointwise
    rw [ih, oB_at]

/-- The joined sums of a row, with the residual. -/
def totAt (c : Dev nD) (b : Fin 16) (o : Fin 32) (q : Fin 1024) : EReal :=
  sumAt m down b o q (yOf c) c + sumAt m up b o q (3 - yOf c) c - parAt m c (rowOf c b o) q + resAt m c (rowOf c b o) q

/-- The kernel joins them so. -/
theorem tot_at (c : Dev nD) (b : Fin 16) (o : Fin 32) (q : Fin 1024) :
    totP (accU m ρ c b) (accD m ρ c b) (oB m ρ c b) (sB m ρ c b) (ix2 o q) = totAt m c b o q := by
  unfold totP totAt
  pointwise
  rw [show accU m ρ c b (ix3 0 o q) = _ from run_at m ρ down b o q _ c, show accD m ρ c b (ix3 0 o q) = _ from run_at m ρ up b o q _ c, oB_at, sB_at]

/-- The constants the mean is taken with: the row's length and what is added to the mean. -/
def lenC : EReal := Ideal.ofBits FTy.f32 0x44800000#32
def epsC : EReal := Ideal.ofBits FTy.f32 0x358637BD#32

/-- Rows normalised, at an index. -/
theorem norm_at (g : FVec Ideal S1024 .bf16) (y : FVec Ideal S32x1024 .f32) (o : Fin 32) (q : Fin 1024) :
    normP g y (ix2 o q) = y (ix2 o q) * Ideal.rsqrt (Math.meanOf lenC epsC (∑ k, y (ix2 o k) * y (ix2 o k))) * g (ix1 q) := by
  unfold normP
  pointwise
  rfl

/-- A finished row at an index. -/
def rowAt (c : Dev nD) (b : Fin 16) (o : Fin 32) (q : Fin 1024) : EReal :=
  totAt m c b o q * Ideal.rsqrt (Math.meanOf lenC epsC (∑ k, totAt m c b o k * totAt m c b o k)) * gamAt m c q

/-- The kernel finishes that row, -/
theorem nB_at (c : Dev nD) (b : Fin 16) (o : Fin 32) (q : Fin 1024) : nB m ρ c b (ix2 o q) = rowAt m c b o q := by
  unfold nB rowAt
  rw [norm_at, gV_at, tot_at]
  simp only [tot_at]

/-- and sends the same: rounding changes nothing over the extended reals. -/
theorem wide_at (c : Dev nD) (b : Fin 16) (o : Fin 32) (q : Fin 1024) : wideP (srcV m ρ .x c b) (ix2 o q) = rowAt m c b o q := by
  rw [← nB_at m ρ c b o q]
  unfold wideP srcV roundP
  pointwise

/-- The two ways to write an index. -/
theorem rowIx_eq (o : Fin 32) (q : Fin 1024) : rowIx o q = ix2 o q := by
  funext a; fin_cases a <;> rfl

/-- The device that finishes row `r` for device `c`: itself or the one across. -/
def ownerOf (c : Dev nD) (r : Fin 1024) : Dev nD := if r.val / 512 = xOf c then c else across c

/-- Each row of the result is the finished row of the device it belongs to. -/
theorem outAt_eq (c : Dev nD) (r q : Fin 1024) : outAt m ρ c r q = rowAt m (ownerOf c r) (blkOf r) (offOf r) q := by
  unfold outAt ownerOf
  rw [rowIx_eq]
  split
  · exact nB_at m ρ c _ _ q
  · exact wide_at m ρ _ _ _ q

/-- The coordinates on the mesh, and those of the neighbours. -/
theorem x_lt (c : Dev nD) : xOf c < 2 := by have := c.isLt; change c.val < 32 at this; unfold xOf; omega
theorem y_lt (c : Dev nD) : yOf c < 4 := by unfold yOf; omega
theorem x_across : ∀ c : Dev nD, xOf (across c) = 1 - xOf c := by
  have : ∀ c : Fin 32, xOf (across c) = 1 - xOf c := by decide +kernel
  exact this
theorem x_down : ∀ c : Dev nD, xOf (down c) = xOf c := by
  have : ∀ c : Fin 32, xOf (down c) = xOf c := by decide +kernel
  exact this
theorem x_up : ∀ c : Dev nD, xOf (up c) = xOf c := by
  have : ∀ c : Fin 32, xOf (up c) = xOf c := by decide +kernel
  exact this
theorem y_down : ∀ c : Dev nD, 0 < yOf c → yOf (down c) + 1 = yOf c := by
  have : ∀ c : Fin 32, 0 < yOf c → yOf (down c) + 1 = yOf c := by decide +kernel
  exact this
theorem y_up : ∀ c : Dev nD, yOf c < 3 → yOf (up c) = yOf c + 1 := by
  have : ∀ c : Fin 32, yOf c < 3 → yOf (up c) = yOf c + 1 := by decide +kernel
  exact this

/-- Its row of that block is row `r` of the whole arrays. -/
theorem owner_row (c : Dev nD) (r : Fin 1024) : rowOf (ownerOf c r) (blkOf r) (offOf r) = r := by
  have hx := x_lt c
  have hr := r.isLt
  have key : xOf (ownerOf c r) = r.val / 512 := by
    unfold ownerOf
    split
    · next h => exact h.symm
    · next h => rw [x_across]; omega
  refine Fin.ext ?_
  show 512 * xOf (ownerOf c r) + 32 * (r.val % 512 / 32) + r.val % 32 = r.val
  rw [key]; omega

/-! ## Against whole arrays -/

/-- The constants are positive numbers. -/
theorem len_eq : lenC = ((1024 : ℝ) : EReal) := by
  simp [lenC, Ideal.ofBits, Ideal.ieee, -EReal.coe_mul]; norm_num
theorem eps_pos : 0 < epsC := by
  simp [epsC, Ideal.ofBits, Ideal.ieee, -EReal.coe_mul]

/-- Which row it is depends on the place along x alone. -/
theorem row_congr {c d : Dev nD} (h : xOf c = xOf d) (b : Fin 16) (o : Fin 32) : rowOf c b o = rowOf d b o :=
  Fin.ext (show 512 * xOf c + 32 * b.val + o.val = 512 * xOf d + 32 * b.val + o.val by rw [h])

section Whole
variable (A : Fin 4 → Fin 1024 → Fin 1024 → EReal) (B : Fin 1024 → Fin 1024 → EReal) (C : Fin 1024 → EReal)
  (hA : ∀ c r q, parAt m c r q = A ⟨yOf c, y_lt c⟩ r q) (hB : ∀ c r q, resAt m c r q = B r q) (hC : ∀ c q, gamAt m c q = C q)

include hA in
/-- The running sums at a device, as sums over the blocks. -/
theorem down_at (b : Fin 16) (o : Fin 32) (q : Fin 1024) (n : ℕ) (c : Dev nD) (h : yOf c = n) :
    sumAt m down b o q n c = Math.sumUp (fun k => A k (rowOf c b o) q) n := by
  induction n generalizing c with
  | zero =>
    show parAt m c (rowOf c b o) q = A 0 (rowOf c b o) q
    rw [hA]; exact congrArg (fun k => A k (rowOf c b o) q) (Fin.ext h)
  | succ n ih =>
    show sumAt m down b o q n (down c) + parAt m c (rowOf c b o) q = _ + A (Fin.ofNat 4 (n + 1)) (rowOf c b o) q
    have hy := y_lt c
    have hd := y_down c (by omega)
    rw [ih (down c) (by omega), row_congr (x_down c), hA]
    exact congrArg (fun k => _ + A k (rowOf c b o) q) (Fin.ext (show yOf c = (n + 1) % 4 by omega))

include hA in
/-- The running sums from the other end. -/
theorem up_at (b : Fin 16) (o : Fin 32) (q : Fin 1024) (n : ℕ) (c : Dev nD) (h : yOf c + n = 3) :
    sumAt m up b o q n c = Math.sumDown (fun k => A k (rowOf c b o) q) n := by
  induction n generalizing c with
  | zero =>
    show parAt m c (rowOf c b o) q = A 3 (rowOf c b o) q
    rw [hA]; exact congrArg (fun k => A k (rowOf c b o) q) (Fin.ext h)
  | succ n ih =>
    show sumAt m up b o q n (up c) + parAt m c (rowOf c b o) q = _ + A (Fin.ofNat 4 (3 - (n + 1))) (rowOf c b o) q
    have hy := y_lt c
    have hd := y_up c (by omega)
    rw [ih (up c) (by omega), row_congr (x_up c), hA]
    exact congrArg (fun k => _ + A k (rowOf c b o) q) (Fin.ext (show yOf c = (3 - (n + 1)) % 4 by omega))

include hA hB in
/-- A joined row agrees with the reference's. -/
theorem tot_agree (c : Dev nD) (b : Fin 16) (o : Fin 32) (q : Fin 1024) :
    Math.Agree (totAt m c b o q) ((∑ k, A k (rowOf c b o) q) + B (rowOf c b o) q) := by
  unfold totAt
  have hy := y_lt c
  rw [down_at m A hA b o q _ c rfl, up_at m A hA b o q _ c (by omega), hA, hB]
  exact Math.column (fun k => A k (rowOf c b o) q) _ ⟨yOf c, y_lt c⟩

include hA hB hC in
/-- The result of every device at row `r`: the whole sum of the row divided by its root mean square, scaled by gamma. -/
theorem out_whole (c : Dev nD) (r q : Fin 1024) :
    outAt m ρ c r q = Ideal.div ((∑ k, A k r q) + B r q)
      (Ideal.sqrt (Math.meanOf lenC epsC (∑ j, ((∑ k, A k r j) + B r j) * ((∑ k, A k r j) + B r j)))) * C q := by
  rw [outAt_eq]
  unfold rowAt
  have h := fun j => tot_agree m A B hA hB (ownerOf c r) (blkOf r) (offOf r) j
  simp only [owner_row] at h
  rw [hC, len_eq, Math.norm_row _ _ h (by norm_num) eps_pos q]

end Whole

end Cert.KernelIdeal.Body

end
-- ==== Proof.lean ====
/-
The claims about the mesh's kernel and about the reference, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Ends
public import proofs.«01_k».proof.Proof.KernelIdeal.Ends
public import proofs.«01_k».proof.Proof.KernelIdeal.Read
public import Idealize.ShloMosaic.Adequacy
public import Idealize.ShloMosaic.Init
public import Idealize.ShloMosaic.Lib.Quiescent

@[expose] public section

noncomputable section

namespace Cert.Proof

open Idealize.ShloMosaic Idealize.SL.Sem
open Cert.KernelIdeal.Body (parAt resAt gamAt yOf y_lt lenC epsC)

/-- The kernel leaves its arguments and every counter as they were. -/
theorem frame_kernel : Cert.quiescent_Kernel (hKernel := Cert.Kernel.Gen.facts) := fun m g _ =>
  (θ_run (Cert.Kernel.defs (F := Bits)) _ _).mono (fun _ h => ⟨fun c => (h.1 c).2, h.2⟩) (Cert.Kernel.Body.run_ends m g)

/-- So does its reading over the extended reals. -/
theorem frame_ideal : Cert.quiescent_KernelIdeal (hKernelIdeal := Cert.KernelIdeal.Gen.facts) := fun m g _ =>
  (θ_run (Cert.KernelIdeal.defs (F := Ideal)) _ _).mono (fun _ h => ⟨fun c => (h.1 c).2, h.2⟩) (Cert.KernelIdeal.Body.run_ends m g)

/-- So does the reference. -/
theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run m g)

section Value
open Cert.ReferenceIdeal Cert.ReferenceIdeal.Gen

/-- The reference's result as a function of its arguments. -/
def refF (A : FVec Ideal S4x1024x1024 .bf16) (B : FVec Ideal S1024x1024 .bf16) (C : FVec Ideal S1024 .bf16) : FVec Ideal S1024x1024 .f32 :=
  let y : FVec Ideal S1024x1024 .f32 := addf (Host.reduceAdd (extf .f32 A bitsLt_bf16_f32) (constant S_ .f32 0x00000000#32) reducesTo_S4x1024x1024_S1024x1024_d0 h_S_) (extf .f32 B bitsLt_bf16_f32)
  mulf (Host.divf y (broadcastInDim S1024x1024 ![0, 1] bcast_S1024x1_S1024x1024_0_1 (Host.sqrt (addf (Host.divf (broadcastInDim S1024x1 ![0] bcast_S1024_S1024x1_0
      (Host.reduceAdd (mulf y y) (constant S_ .f32 0x00000000#32) reducesTo_S1024x1024_S1024_d1 h_S_)) (broadcastInDim S1024x1 ![] bcast_S_S1024x1 (constant S_ .f32 0x44800000#32)))
      (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1 (extf .f32 C bitsLt_bf16_f32)))

/-- It at an index. -/
theorem ref_at (A : FVec Ideal S4x1024x1024 .bf16) (B : FVec Ideal S1024x1024 .bf16) (C : FVec Ideal S1024 .bf16) (r q : Fin 1024) :
    refF A B C (ix2 r q) = Ideal.div ((∑ k, A (ix3 k r q)) + B (ix2 r q))
      (Ideal.sqrt (Math.meanOf lenC epsC (∑ j, ((∑ k, A (ix3 k r j)) + B (ix2 r j)) * ((∑ k, A (ix3 k r j)) + B (ix2 r j))))) * C (ix1 q) := by
  unfold refF
  pointwise
  rfl

end Value

/-- A device's block of the partial sums is the block its place along y names. -/
theorem block_at (A : FVec Ideal ⟨3, ![4, 1024, 1024]⟩ .bf16) (c : Dev Cert.KernelIdeal.nD) (r q : Fin 1024) :
    (Layout.blockN ⟨3, ![1, 1024, 1024]⟩ ⟨3, ![4, 1024, 1024]⟩ (Layout.meshBlock [2, 4, 4] ![[1], [], []] c) A : FVec Ideal ⟨3, ![1, 1024, 1024]⟩ .bf16) (ix3 0 r q)
      = A (ix3 ⟨yOf c, y_lt c⟩ r q) := by
  refine congrArg A (funext fun a => Fin.ext ?_)
  fin_cases a
  · have h : ∀ c : Fin 32, Layout.meshLin [2, 4, 4] c.val [1] * 1 + 0 = yOf c := by decide +kernel
    exact h c
  · show 0 * 1024 + r.val = r.val
    omega
  · show 0 * 1024 + q.val = q.val
    omega

/-- Every device ends with the reference's result. -/
theorem value : Cert.algebraic_KernelIdeal_ReferenceIdeal (hKernelIdeal := Cert.KernelIdeal.Gen.facts) (hReferenceIdeal := Cert.ReferenceIdeal.Gen.facts) := by
  intro m g m' g' _ hagree
  refine ⟨refF (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run (Cert.KernelIdeal.defs (F := Ideal)) _ _).mono (fun r h c => ⟨(h.1 c).1.trans ?_, (h.1 c).2⟩) (Cert.KernelIdeal.Body.run_ends m g)
    funext i
    have hi : i = ix2 (i 0) (i 1) := eq_ix2 (show (⟨2, ![1024, 1024]⟩ : Shape).Idx from i)
    rw [hi]
    refine Eq.trans ?_ (ref_at _ _ _ (i 0) (i 1)).symm
    exact Cert.KernelIdeal.Body.out_whole m g
      (fun k r q => (show FVec Ideal Cert.ReferenceIdeal.S4x1024x1024 .bf16 from m' (((0 : Dev Cert.ReferenceIdeal.nD).tc : Thread Cert.ReferenceIdeal.nD Cert.ReferenceIdeal.τ).loc Cert.ReferenceIdeal.main_arg0)) (ix3 k r q))
      (fun r q => (show FVec Ideal Cert.ReferenceIdeal.S1024x1024 .bf16 from m' (((0 : Dev Cert.ReferenceIdeal.nD).tc : Thread Cert.ReferenceIdeal.nD Cert.ReferenceIdeal.τ).loc Cert.ReferenceIdeal.main_arg1)) (ix2 r q))
      (fun q => (show FVec Ideal Cert.ReferenceIdeal.S1024 .bf16 from m' (((0 : Dev Cert.ReferenceIdeal.nD).tc : Thread Cert.ReferenceIdeal.nD Cert.ReferenceIdeal.τ).loc Cert.ReferenceIdeal.main_arg2)) (ix1 q))
      (fun c r q => by unfold parAt; rw [(hagree c).1]; exact block_at _ c r q)
      (fun c r q => by unfold resAt; rw [(hagree c).2.1])
      (fun c q => by unfold gamAt; rw [(hagree c).2.2]) c (i 0) (i 1)
  · exact (θ_run (Cert.ReferenceIdeal.defs (F := Ideal)) _ _).mono (fun r h => h 0) (Cert.ReferenceIdeal.Value.run m' g')

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
